-- ==== Defs.lean ====
def Pre_Kernel (m : (ℓ : Loc Cert.Kernel.nD Cert.Kernel.τ Cert.Kernel.sig) → Buf (Elt Bits) ℓ) : Prop :=
  True

def Pre_Kernel_pos_aligned [hPre_pos_aligned : Cert.Pre_pos_aligned.Facts] (m : (ℓ : Loc Cert.Kernel.nD Cert.Kernel.τ Cert.Kernel.sig) → Buf (Elt Bits) ℓ) : Prop :=
  ∀ c : Dev Cert.Kernel.nD,
    (Cert.Pre_pos_aligned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_Reference (m : (ℓ : Loc Cert.Reference.nD Cert.Reference.τ Cert.Reference.sig) → Buf (Elt Bits) ℓ) : Prop :=
  True

def Pre_Reference_pos_aligned [hPre_pos_aligned : Cert.Pre_pos_aligned.Facts] (m : (ℓ : Loc Cert.Reference.nD Cert.Reference.τ Cert.Reference.sig) → Buf (Elt Bits) ℓ) : Prop :=
  ∀ c : Dev Cert.Reference.nD,
    (Cert.Pre_pos_aligned.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6)) (m ((c.tc : Thread Cert.Reference.nD Cert.Reference.τ).loc Cert.Reference.main_arg7)) (m ((c.tc : Thread Cert.Reference.nD Cert.Reference.τ).loc Cert.Reference.main_arg8)) (m ((c.tc : Thread Cert.Reference.nD Cert.Reference.τ).loc Cert.Reference.main_arg9)) (m ((c.tc : Thread Cert.Reference.nD Cert.Reference.τ).loc Cert.Reference.main_arg10)) (m ((c.tc : Thread Cert.Reference.nD Cert.Reference.τ).loc Cert.Reference.main_arg11)) (m ((c.tc : Thread Cert.Reference.nD Cert.Reference.τ).loc Cert.Reference.main_arg12)) (m ((c.tc : Thread Cert.Reference.nD Cert.Reference.τ).loc Cert.Reference.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_Kernel_pre_pos_aligned [hKernel : Cert.Kernel.Facts] [hPre_pos_aligned : Cert.Pre_pos_aligned.Facts] : Prop :=
  ∀ (m : (ℓ : Loc Cert.Kernel.nD Cert.Kernel.τ Cert.Kernel.sig) → Buf (Elt Bits) ℓ) (g : Dev Cert.Kernel.nD → PrngReg), Pre_Kernel_pos_aligned m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13))
      ∧ r.2.sem = fun _ => 0)

def quiescent_Reference_pre_pos_aligned [hReference : Cert.Reference.Facts] [hPre_pos_aligned : Cert.Pre_pos_aligned.Facts] : Prop :=
  ∀ (m : (ℓ : Loc Cert.Reference.nD Cert.Reference.τ Cert.Reference.sig) → Buf (Elt Bits) ℓ) (g : Dev Cert.Reference.nD → PrngReg), Pre_Reference_pos_aligned m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13))
      ∧ r.2.sem = fun _ => 0)

def bitexact_Kernel_Reference_pre_pos_aligned [hKernel : Cert.Kernel.Facts] [hReference : Cert.Reference.Facts] [hPre_pos_aligned : Cert.Pre_pos_aligned.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_pos_aligned m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)
      ∧ m' ((c.tc : Thread Cert.Reference.nD Cert.Reference.τ).loc Cert.Reference.main_arg7) = m ((c.tc : Thread Cert.Kernel.nD Cert.Kernel.τ).loc Cert.Kernel.main_arg7)
      ∧ m' ((c.tc : Thread Cert.Reference.nD Cert.Reference.τ).loc Cert.Reference.main_arg8) = m ((c.tc : Thread Cert.Kernel.nD Cert.Kernel.τ).loc Cert.Kernel.main_arg8)
      ∧ m' ((c.tc : Thread Cert.Reference.nD Cert.Reference.τ).loc Cert.Reference.main_arg9) = m ((c.tc : Thread Cert.Kernel.nD Cert.Kernel.τ).loc Cert.Kernel.main_arg9)
      ∧ m' ((c.tc : Thread Cert.Reference.nD Cert.Reference.τ).loc Cert.Reference.main_arg10) = m ((c.tc : Thread Cert.Kernel.nD Cert.Kernel.τ).loc Cert.Kernel.main_arg10)
      ∧ m' ((c.tc : Thread Cert.Reference.nD Cert.Reference.τ).loc Cert.Reference.main_arg11) = m ((c.tc : Thread Cert.Kernel.nD Cert.Kernel.τ).loc Cert.Kernel.main_arg11)
      ∧ m' ((c.tc : Thread Cert.Reference.nD Cert.Reference.τ).loc Cert.Reference.main_arg12) = m ((c.tc : Thread Cert.Kernel.nD Cert.Kernel.τ).loc Cert.Kernel.main_arg12)
      ∧ m' ((c.tc : Thread Cert.Reference.nD Cert.Reference.τ).loc Cert.Reference.main_arg13) = m ((c.tc : Thread Cert.Kernel.nD Cert.Kernel.τ).loc Cert.Kernel.main_arg13)) →
    ∃ (v0 : (c : Dev Cert.Kernel.nD) → Buf (Elt Bits) ((c.tc : Thread Cert.Kernel.nD Cert.Kernel.τ).loc Cert.Kernel.main_v23_0)) (v1 : (c : Dev Cert.Kernel.nD) → Buf (Elt Bits) ((c.tc : Thread Cert.Kernel.nD Cert.Kernel.τ).loc Cert.Kernel.main_v23_1)) (v2 : (c : Dev Cert.Kernel.nD) → Buf (Elt Bits) ((c.tc : Thread Cert.Kernel.nD Cert.Kernel.τ).loc Cert.Kernel.main_v24)) (v3 : (c : Dev Cert.Kernel.nD) → Buf (Elt Bits) ((c.tc : Thread Cert.Kernel.nD Cert.Kernel.τ).loc Cert.Kernel.main_v37)) (v4 : (c : Dev Cert.Kernel.nD) → Buf (Elt Bits) ((c.tc : Thread Cert.Kernel.nD Cert.Kernel.τ).loc Cert.Kernel.main_v31)) (v5 : (c : Dev Cert.Kernel.nD) → Buf (Elt Bits) ((c.tc : Thread Cert.Kernel.nD Cert.Kernel.τ).loc Cert.Kernel.main_v35)) (v6 : (c : Dev Cert.Kernel.nD) → Buf (Elt Bits) ((c.tc : Thread Cert.Kernel.nD Cert.Kernel.τ).loc Cert.Kernel.main_v39)) (v7 : (c : Dev Cert.Kernel.nD) → Buf (Elt Bits) ((c.tc : Thread Cert.Kernel.nD Cert.Kernel.τ).loc Cert.Kernel.main_v42)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v23_0) = v0 c
          ∧ r.2.mem ((c.tc : Thread Cert.Kernel.nD Cert.Kernel.τ).loc Cert.Kernel.main_v23_1) = v1 c
          ∧ r.2.mem ((c.tc : Thread Cert.Kernel.nD Cert.Kernel.τ).loc Cert.Kernel.main_v24) = v2 c
          ∧ r.2.mem ((c.tc : Thread Cert.Kernel.nD Cert.Kernel.τ).loc Cert.Kernel.main_v37) = v3 c
          ∧ r.2.mem ((c.tc : Thread Cert.Kernel.nD Cert.Kernel.τ).loc Cert.Kernel.main_v31) = v4 c
          ∧ r.2.mem ((c.tc : Thread Cert.Kernel.nD Cert.Kernel.τ).loc Cert.Kernel.main_v35) = v5 c
          ∧ r.2.mem ((c.tc : Thread Cert.Kernel.nD Cert.Kernel.τ).loc Cert.Kernel.main_v39) = v6 c
          ∧ r.2.mem ((c.tc : Thread Cert.Kernel.nD Cert.Kernel.τ).loc Cert.Kernel.main_v42) = v7 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6)
          ∧ r.2.mem ((c.tc : Thread Cert.Kernel.nD Cert.Kernel.τ).loc Cert.Kernel.main_arg7) = m ((c.tc : Thread Cert.Kernel.nD Cert.Kernel.τ).loc Cert.Kernel.main_arg7)
          ∧ r.2.mem ((c.tc : Thread Cert.Kernel.nD Cert.Kernel.τ).loc Cert.Kernel.main_arg8) = m ((c.tc : Thread Cert.Kernel.nD Cert.Kernel.τ).loc Cert.Kernel.main_arg8)
          ∧ r.2.mem ((c.tc : Thread Cert.Kernel.nD Cert.Kernel.τ).loc Cert.Kernel.main_arg9) = m ((c.tc : Thread Cert.Kernel.nD Cert.Kernel.τ).loc Cert.Kernel.main_arg9)
          ∧ r.2.mem ((c.tc : Thread Cert.Kernel.nD Cert.Kernel.τ).loc Cert.Kernel.main_arg10) = m ((c.tc : Thread Cert.Kernel.nD Cert.Kernel.τ).loc Cert.Kernel.main_arg10)
          ∧ r.2.mem ((c.tc : Thread Cert.Kernel.nD Cert.Kernel.τ).loc Cert.Kernel.main_arg11) = m ((c.tc : Thread Cert.Kernel.nD Cert.Kernel.τ).loc Cert.Kernel.main_arg11)
          ∧ r.2.mem ((c.tc : Thread Cert.Kernel.nD Cert.Kernel.τ).loc Cert.Kernel.main_arg12) = m ((c.tc : Thread Cert.Kernel.nD Cert.Kernel.τ).loc Cert.Kernel.main_arg12)
          ∧ r.2.mem ((c.tc : Thread Cert.Kernel.nD Cert.Kernel.τ).loc Cert.Kernel.main_arg13) = m ((c.tc : Thread Cert.Kernel.nD Cert.Kernel.τ).loc Cert.Kernel.main_arg13))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v12) = v0 c
          ∧ r.2.mem ((c.tc : Thread Cert.Reference.nD Cert.Reference.τ).loc Cert.Reference.main_v19) = v1 c
          ∧ r.2.mem ((c.tc : Thread Cert.Reference.nD Cert.Reference.τ).loc Cert.Reference.main_v26) = v2 c
          ∧ r.2.mem ((c.tc : Thread Cert.Reference.nD Cert.Reference.τ).loc Cert.Reference.main_v33) = v3 c
          ∧ r.2.mem ((c.tc : Thread Cert.Reference.nD Cert.Reference.τ).loc Cert.Reference.main_v40) = v4 c
          ∧ r.2.mem ((c.tc : Thread Cert.Reference.nD Cert.Reference.τ).loc Cert.Reference.main_v47) = v5 c
          ∧ r.2.mem ((c.tc : Thread Cert.Reference.nD Cert.Reference.τ).loc Cert.Reference.main_v49) = v6 c
          ∧ r.2.mem ((c.tc : Thread Cert.Reference.nD Cert.Reference.τ).loc Cert.Reference.main_v52) = v7 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6)
          ∧ r.2.mem ((c.tc : Thread Cert.Reference.nD Cert.Reference.τ).loc Cert.Reference.main_arg7) = m' ((c.tc : Thread Cert.Reference.nD Cert.Reference.τ).loc Cert.Reference.main_arg7)
          ∧ r.2.mem ((c.tc : Thread Cert.Reference.nD Cert.Reference.τ).loc Cert.Reference.main_arg8) = m' ((c.tc : Thread Cert.Reference.nD Cert.Reference.τ).loc Cert.Reference.main_arg8)
          ∧ r.2.mem ((c.tc : Thread Cert.Reference.nD Cert.Reference.τ).loc Cert.Reference.main_arg9) = m' ((c.tc : Thread Cert.Reference.nD Cert.Reference.τ).loc Cert.Reference.main_arg9)
          ∧ r.2.mem ((c.tc : Thread Cert.Reference.nD Cert.Reference.τ).loc Cert.Reference.main_arg10) = m' ((c.tc : Thread Cert.Reference.nD Cert.Reference.τ).loc Cert.Reference.main_arg10)
          ∧ r.2.mem ((c.tc : Thread Cert.Reference.nD Cert.Reference.τ).loc Cert.Reference.main_arg11) = m' ((c.tc : Thread Cert.Reference.nD Cert.Reference.τ).loc Cert.Reference.main_arg11)
          ∧ r.2.mem ((c.tc : Thread Cert.Reference.nD Cert.Reference.τ).loc Cert.Reference.main_arg12) = m' ((c.tc : Thread Cert.Reference.nD Cert.Reference.τ).loc Cert.Reference.main_arg12)
          ∧ r.2.mem ((c.tc : Thread Cert.Reference.nD Cert.Reference.τ).loc Cert.Reference.main_arg13) = m' ((c.tc : Thread Cert.Reference.nD Cert.Reference.τ).loc Cert.Reference.main_arg13))

def Claim : Prop :=
  ∃ (hKernel : Cert.Kernel.Facts) (hReference : Cert.Reference.Facts) (hPre_pos_aligned : Cert.Pre_pos_aligned.Facts),
    quiescent_Kernel (hKernel := hKernel)
    ∧ quiescent_Kernel_pre_pos_aligned (hKernel := hKernel) (hPre_pos_aligned := hPre_pos_aligned)
    ∧ quiescent_Reference (hReference := hReference)
    ∧ quiescent_Reference_pre_pos_aligned (hReference := hReference) (hPre_pos_aligned := hPre_pos_aligned)
    ∧ bitexact_Kernel_Reference_pre_pos_aligned (hKernel := hKernel) (hReference := hReference) (hPre_pos_aligned := hPre_pos_aligned)
-- ==== Pre_pos_aligned.lean ====
abbrev S16384x128 : Shape := ⟨2, ![16384, 128]⟩
abbrev S16384x32 : Shape := ⟨2, ![16384, 32]⟩
abbrev S16384 : Shape := ⟨1, ![16384]⟩
abbrev S16384x10 : Shape := ⟨2, ![16384, 10]⟩
abbrev S131072x128 : Shape := ⟨2, ![131072, 128]⟩
abbrev S131072x32 : Shape := ⟨2, ![131072, 32]⟩
abbrev S131072x1 : Shape := ⟨2, ![131072, 1]⟩
abbrev S131072x10 : Shape := ⟨2, ![131072, 10]⟩
abbrev S_ : Shape := ⟨0, ![]⟩

class Facts : Prop where

variable [Facts]

def fn {F : FTy → Type} [FloatOps F] (main_arg0 : FVec F S16384x128 .f32) (main_arg1 : FVec F S16384x128 .f32) (main_arg2 : FVec F S16384x32 .f32) (main_arg3 : FVec F S16384 .f32) (main_arg4 : IVec S16384 1) (main_arg5 : IVec S16384x10 1) (main_arg6 : FVec F S131072x128 .f32) (main_arg7 : FVec F S131072x128 .f32) (main_arg8 : FVec F S131072x32 .f32) (main_arg9 : FVec F S131072x1 .f32) (main_arg10 : IVec S131072x1 1) (main_arg11 : IVec S131072x10 1) (main_arg12 : IVec S_ 32) (main_arg13 : IVec S_ 1) : IVec S_ 1 :=
  let main_c : IVec S_ 32 := constantI S_ 32 31#32
  let main_v0 : IVec S_ 32 := andi main_arg12 main_c
  let main_c_0 : IVec S_ 32 := constantI S_ 32 0#32
  let main_v1 : IVec S_ 1 := cmpi .eq main_v0 main_c_0
  main_v1
-- ==== Kernel.lean ====
abbrev S16384x128 : Shape := ⟨2, ![16384, 128]⟩
abbrev S16384x32 : Shape := ⟨2, ![16384, 32]⟩
abbrev S16384 : Shape := ⟨1, ![16384]⟩
abbrev S16384x10 : Shape := ⟨2, ![16384, 10]⟩
abbrev S131072x128 : Shape := ⟨2, ![131072, 128]⟩
abbrev S131072x32 : Shape := ⟨2, ![131072, 32]⟩
abbrev S131072x1 : Shape := ⟨2, ![131072, 1]⟩
abbrev S131072x10 : Shape := ⟨2, ![131072, 10]⟩
abbrev S_ : Shape := ⟨0, ![]⟩
abbrev S16384x1 : Shape := ⟨2, ![16384, 1]⟩
abbrev S16384x1x4 : Shape := ⟨3, ![16384, 1, 4]⟩
abbrev S16384x4 : Shape := ⟨2, ![16384, 4]⟩
abbrev S16384x16 : Shape := ⟨2, ![16384, 16]⟩
abbrev S16384x4x4 : Shape := ⟨3, ![16384, 4, 4]⟩
abbrev S131072x1x4 : Shape := ⟨3, ![131072, 1, 4]⟩
abbrev S131072x4 : Shape := ⟨2, ![131072, 4]⟩
abbrev S131072x16 : Shape := ⟨2, ![131072, 16]⟩
abbrev S131072x4x4 : Shape := ⟨3, ![131072, 4, 4]⟩
abbrev S16 : Shape := ⟨1, ![16]⟩
abbrev S32768x128 : Shape := ⟨2, ![32768, 128]⟩
abbrev S4096x128 : Shape := ⟨2, ![4096, 128]⟩
abbrev S512x128 : Shape := ⟨2, ![512, 128]⟩
abbrev S128x128 : Shape := ⟨2, ![128, 128]⟩
abbrev S4x128 : Shape := ⟨2, ![4, 128]⟩
abbrev S1x128 : Shape := ⟨2, ![1, 128]⟩
abbrev S1x16 : Shape := ⟨2, ![1, 16]⟩
abbrev S128 : Shape := ⟨1, ![128]⟩

abbrev nBuf : Table → Nat
  | .hbm => 83
  | .local .scVector .vmem => 7
  | _ => 0

abbrev bufTy : (tb : Table) → Fin (nBuf tb) → BufTy
  | .hbm, ⟨0, _⟩ => ⟨S16384x128, .f32⟩
  | .hbm, ⟨1, _⟩ => ⟨S16384x128, .f32⟩
  | .hbm, ⟨2, _⟩ => ⟨S16384x32, .f32⟩
  | .hbm, ⟨3, _⟩ => ⟨S16384, .f32⟩
  | .hbm, ⟨4, _⟩ => ⟨S16384, .i1⟩
  | .hbm, ⟨5, _⟩ => ⟨S16384x10, .i1⟩
  | .hbm, ⟨6, _⟩ => ⟨S131072x128, .f32⟩
  | .hbm, ⟨7, _⟩ => ⟨S131072x128, .f32⟩
  | .hbm, ⟨8, _⟩ => ⟨S131072x32, .f32⟩
  | .hbm, ⟨9, _⟩ => ⟨S131072x1, .f32⟩
  | .hbm, ⟨10, _⟩ => ⟨S131072x1, .i1⟩
  | .hbm, ⟨11, _⟩ => ⟨S131072x10, .i1⟩
  | .hbm, ⟨12, _⟩ => ⟨S_, .i32⟩
  | .hbm, ⟨13, _⟩ => ⟨S_, .i1⟩
  | .hbm, ⟨14, _⟩ => ⟨S16384x1, .i1⟩
  | .hbm, ⟨15, _⟩ => ⟨S16384x1, .f32⟩
  | .hbm, ⟨16, _⟩ => ⟨S16384x1, .i8⟩
  | .hbm, ⟨17, _⟩ => ⟨S16384x10, .i8⟩
  | .hbm, ⟨18, _⟩ => ⟨S_, .i8⟩
  | .hbm, ⟨19, _⟩ => ⟨S16384x1, .i8⟩
  | .hbm, ⟨20, _⟩ => ⟨S16384x1x4, .i8⟩
  | .hbm, ⟨21, _⟩ => ⟨S16384x4, .i8⟩
  | .hbm, ⟨22, _⟩ => ⟨S16384x16, .i8⟩
  | .hbm, ⟨23, _⟩ => ⟨S16384x4x4, .i8⟩
  | .hbm, ⟨24, _⟩ => ⟨S16384x4, .i32⟩
  | .hbm, ⟨25, _⟩ => ⟨S131072x1, .i8⟩
  | .hbm, ⟨26, _⟩ => ⟨S131072x10, .i8⟩
  | .hbm, ⟨27, _⟩ => ⟨S_, .i8⟩
  | .hbm, ⟨28, _⟩ => ⟨S131072x1, .i8⟩
  | .hbm, ⟨29, _⟩ => ⟨S131072x1x4, .i8⟩
  | .hbm, ⟨30, _⟩ => ⟨S131072x4, .i8⟩
  | .hbm, ⟨31, _⟩ => ⟨S131072x16, .i8⟩
  | .hbm, ⟨32, _⟩ => ⟨S131072x4x4, .i8⟩
  | .hbm, ⟨33, _⟩ => ⟨S131072x4, .i32⟩
  | .hbm, ⟨34, _⟩ => ⟨S16, .i32⟩
  | .hbm, ⟨35, _⟩ => ⟨S32768x128, .f32⟩
  | .hbm, ⟨36, _⟩ => ⟨S4096x128, .i32⟩
  | .hbm, ⟨37, _⟩ => ⟨S4096x128, .f32⟩
  | .hbm, ⟨38, _⟩ => ⟨S512x128, .i32⟩
  | .hbm, ⟨39, _⟩ => ⟨S131072x128, .f32⟩
  | .hbm, ⟨40, _⟩ => ⟨S131072x128, .f32⟩
  | .hbm, ⟨41, _⟩ => ⟨S32768x128, .f32⟩
  | .hbm, ⟨42, _⟩ => ⟨S4096x128, .i32⟩
  | .hbm, ⟨43, _⟩ => ⟨S131072x32, .f32⟩
  | .hbm, ⟨44, _⟩ => ⟨S131072x4, .i32⟩
  | .hbm, ⟨45, _⟩ => ⟨S131072x4x4, .i8⟩
  | .hbm, ⟨46, _⟩ => ⟨S131072x16, .i8⟩
  | .hbm, ⟨47, _⟩ => ⟨S131072x1, .i8⟩
  | .hbm, ⟨48, _⟩ => ⟨S_, .i8⟩
  | .hbm, ⟨49, _⟩ => ⟨S131072x1, .i8⟩
  | .hbm, ⟨50, _⟩ => ⟨S131072x1, .i1⟩
  | .hbm, ⟨51, _⟩ => ⟨S131072x1, .i1⟩
  | .hbm, ⟨52, _⟩ => ⟨S131072x10, .i8⟩
  | .hbm, ⟨53, _⟩ => ⟨S_, .i8⟩
  | .hbm, ⟨54, _⟩ => ⟨S131072x10, .i8⟩
  | .hbm, ⟨55, _⟩ => ⟨S131072x10, .i1⟩
  | .hbm, ⟨56, _⟩ => ⟨S131072x10, .i1⟩
  | .hbm, ⟨57, _⟩ => ⟨S131072x1, .i32⟩
  | .hbm, ⟨58, _⟩ => ⟨S131072x1, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i1⟩
  | .hbm, ⟨72, _⟩ => ⟨S_, .i32⟩
  | .hbm, ⟨73, _⟩ => ⟨S_, .i1⟩
  | .hbm, ⟨74, _⟩ => ⟨S_, .i1⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i1⟩
  | .local .scVector .vmem, ⟨0, _⟩ => ⟨S512x128, .f32⟩
  | .local .scVector .vmem, ⟨1, _⟩ => ⟨S128x128, .f32⟩
  | .local .scVector .vmem, ⟨2, _⟩ => ⟨S128x128, .i32⟩
  | .local .scVector .vmem, ⟨3, _⟩ => ⟨S4x128, .i32⟩
  | .local .scVector .vmem, ⟨4, _⟩ => ⟨S1x128, .i32⟩
  | .local .scVector .vmem, ⟨5, _⟩ => ⟨S1x128, .i32⟩
  | .local .scVector .vmem, ⟨6, _⟩ => ⟨S16, .i32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_1 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_3 : Ref sig .tc := ⟨.hbm, 59, rfl⟩
abbrev main_v38 : Ref sig .tc := ⟨.hbm, 60, rfl⟩
abbrev main_c_4 : Ref sig .tc := ⟨.hbm, 61, rfl⟩
abbrev main_call0_v0 : Ref sig .tc := ⟨.hbm, 62, rfl⟩
abbrev main_call0_c : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_c_1 : Ref sig .tc := ⟨.hbm, 68, rfl⟩
abbrev main_call0_v4 : Ref sig .tc := ⟨.hbm, 69, rfl⟩
abbrev main_call0_c_2 : Ref sig .tc := ⟨.hbm, 70, rfl⟩
abbrev main_call0_v5 : Ref sig .tc := ⟨.hbm, 71, rfl⟩
abbrev main_call0_c_3 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_v39 : Ref sig .tc := ⟨.hbm, 77, rfl⟩
abbrev main_c_5 : Ref sig .tc := ⟨.hbm, 78, rfl⟩
abbrev main_v40 : Ref sig .tc := ⟨.hbm, 79, rfl⟩
abbrev main_c_6 : Ref sig .tc := ⟨.hbm, 80, rfl⟩
abbrev main_v41 : Ref sig .tc := ⟨.hbm, 81, rfl⟩
abbrev main_v42 : Ref sig .tc := ⟨.hbm, 82, rfl⟩
abbrev main_arg0_scv : Ref sig .scVector := ⟨.hbm, 0, rfl⟩
abbrev main_arg1_scv : Ref sig .scVector := ⟨.hbm, 1, rfl⟩
abbrev main_v21_scv : Ref sig .scVector := ⟨.hbm, 37, rfl⟩
abbrev main_v22_scv : Ref sig .scVector := ⟨.hbm, 38, rfl⟩
abbrev main_v18_scv : Ref sig .scVector := ⟨.hbm, 34, rfl⟩
abbrev main_v23_0_scv : Ref sig .scVector := ⟨.hbm, 39, rfl⟩
abbrev main_v23_1_scv : Ref sig .scVector := ⟨.hbm, 40, rfl⟩
abbrev main_v23_2_scv : Ref sig .scVector := ⟨.hbm, 41, rfl⟩
abbrev main_v23_3_scv : Ref sig .scVector := ⟨.hbm, 42, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_337_r1 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_316 : BitVec 32 := 128#32
  let v706 : BitVec 32 := Scalar.muli v1 c128_i32_316
  let c0_i32_337_r3 : BitVec 32 := 0#32
  ![v706.toNat, 0]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_329 : BitVec 32 := 8#32
  let c0_i32_330 : BitVec 32 := 0#32
  let v715 : BitVec 1 := Scalar.cmpi .eq c8_i32_329 c0_i32_330
  let c1_i32_331 : BitVec 32 := 1#32
  let v716 : BitVec 32 := Scalar.select v715 c1_i32_331 c8_i32_329
  let v717 : BitVec 32 := Scalar.remsi v1 v716
  let c0_i32_333 : BitVec 32 := 0#32
  let v719 : BitVec 1 := Scalar.cmpi .slt v717 c0_i32_333
  let c0_i32_334 : BitVec 32 := 0#32
  let v720 : BitVec 1 := Scalar.cmpi .slt v716 c0_i32_334
  let v721 : BitVec 1 := Scalar.xori v719 v720
  let c0_i32_332 : BitVec 32 := 0#32
  let v718 : BitVec 1 := Scalar.cmpi .ne v717 c0_i32_332
  let v722 : BitVec 1 := Scalar.andi v721 v718
  let v723 : BitVec 32 := Scalar.addi v717 v716
  let v724 : BitVec 32 := Scalar.select v722 v723 v717
  let c0_i32_335 : BitVec 32 := 0#32
  let v725 : BitVec 1 := Scalar.cmpi .eq v724 c0_i32_335
  let v726 : BitVec 32 := Scalar.extui v725
  let c0_i32_336 : BitVec 32 := 0#32
  let v727 : BitVec 1 := Scalar.cmpi .ne v726 c0_i32_336
  v727

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_338 : BitVec 32 := 0#32
  let v729 : BitVec 1 := Scalar.cmpi .sgt v1 c0_i32_338
  let v730 : BitVec 32 := Scalar.extui v729
  let c0_i32_339 : BitVec 32 := 0#32
  let v731 : BitVec 1 := Scalar.cmpi .slt v1 c0_i32_339
  let v732 : BitVec 32 := Scalar.extui v731
  let v733 : BitVec 32 := Scalar.subi v730 v732
  let c8_i32_337 : BitVec 32 := 8#32
  let c0_i32_340 : BitVec 32 := 0#32
  let v734 : BitVec 1 := Scalar.cmpi .sgt c8_i32_337 c0_i32_340
  let v735 : BitVec 32 := Scalar.extui v734
  let c0_i32_341 : BitVec 32 := 0#32
  let v736 : BitVec 1 := Scalar.cmpi .slt c8_i32_337 c0_i32_341
  let v737 : BitVec 32 := Scalar.extui v736
  let v738 : BitVec 32 := Scalar.subi v735 v737
  let v739 : BitVec 1 := Scalar.cmpi .ne v733 v738
  let v740 : BitVec 32 := Scalar.remsi v1 c8_i32_337
  let c0_i32_342 : BitVec 32 := 0#32
  let v741 : BitVec 1 := Scalar.cmpi .ne v740 c0_i32_342
  let v742 : BitVec 1 := Scalar.andi v739 v741
  let v728 : BitVec 32 := Scalar.divsi v1 c8_i32_337
  let c1_i32_343 : BitVec 32 := 1#32
  let v743 : BitVec 32 := Scalar.subi v728 c1_i32_343
  let v744 : BitVec 32 := Scalar.select v742 v743 v728
  let c128_i32_344 : BitVec 32 := 128#32
  let v745 : BitVec 32 := Scalar.muli v744 c128_i32_344
  let c0_i32_357_r4 : BitVec 32 := 0#32
  ![v745.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x128 : Shape := ⟨2, ![16384, 128]⟩
abbrev S16384x32 : Shape := ⟨2, ![16384, 32]⟩
abbrev S16384 : Shape := ⟨1, ![16384]⟩
abbrev S16384x10 : Shape := ⟨2, ![16384, 10]⟩
abbrev S131072x128 : Shape := ⟨2, ![131072, 128]⟩
abbrev S131072x32 : Shape := ⟨2, ![131072, 32]⟩
abbrev S131072x1 : Shape := ⟨2, ![131072, 1]⟩
abbrev S131072x10 : Shape := ⟨2, ![131072, 10]⟩
abbrev S_ : Shape := ⟨0, ![]⟩
abbrev S16384x1 : Shape := ⟨2, ![16384, 1]⟩

abbrev nBuf : Space → Nat
  | .hbm => 119
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x32, .f32⟩
  | .hbm, ⟨3, _⟩ => ⟨S16384, .f32⟩
  | .hbm, ⟨4, _⟩ => ⟨S16384, .i1⟩
  | .hbm, ⟨5, _⟩ => ⟨S16384x10, .i1⟩
  | .hbm, ⟨6, _⟩ => ⟨S131072x128, .f32⟩
  | .hbm, ⟨7, _⟩ => ⟨S131072x128, .f32⟩
  | .hbm, ⟨8, _⟩ => ⟨S131072x32, .f32⟩
  | .hbm, ⟨9, _⟩ => ⟨S131072x1, .f32⟩
  | .hbm, ⟨10, _⟩ => ⟨S131072x1, .i1⟩
  | .hbm, ⟨11, _⟩ => ⟨S131072x10, .i1⟩
  | .hbm, ⟨12, _⟩ => ⟨S_, .i32⟩
  | .hbm, ⟨13, _⟩ => ⟨S_, .i1⟩
  | .hbm, ⟨14, _⟩ => ⟨S16384x1, .f32⟩
  | .hbm, ⟨15, _⟩ => ⟨S16384x1, .i1⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S_, .i1⟩
  | .hbm, ⟨35, _⟩ => ⟨S16384, .i1⟩
  | .hbm, ⟨36, _⟩ => ⟨S16384, .i1⟩
  | .hbm, ⟨37, _⟩ => ⟨S16384, .i1⟩
  | .hbm, ⟨38, _⟩ => ⟨S16384, .i32⟩
  | .hbm, ⟨39, _⟩ => ⟨S16384, .i32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S131072x128, .f32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S_, .i32⟩
  | .hbm, ⟨54, _⟩ => ⟨S16384, .i32⟩
  | .hbm, ⟨55, _⟩ => ⟨S16384, .i32⟩
  | .hbm, ⟨56, _⟩ => ⟨S16384, .i32⟩
  | .hbm, ⟨57, _⟩ => ⟨S16384x1, .i32⟩
  | .hbm, ⟨58, _⟩ => ⟨S131072x128, .f32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S131072x32, .f32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S131072x1, .f32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S16384x1, .i32⟩
  | .hbm, ⟨85, _⟩ => ⟨S131072x1, .i1⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S16384x1, .i32⟩
  | .hbm, ⟨94, _⟩ => ⟨S131072x10, .i1⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i1⟩
  | .hbm, ⟨106, _⟩ => ⟨S_, .i32⟩
  | .hbm, ⟨107, _⟩ => ⟨S_, .i1⟩
  | .hbm, ⟨108, _⟩ => ⟨S_, .i32⟩
  | .hbm, ⟨109, _⟩ => ⟨S_, .i1⟩
  | .hbm, ⟨110, _⟩ => ⟨S_, .i1⟩
  | .hbm, ⟨111, _⟩ => ⟨S_, .i1⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S_, .i1⟩
  | .hbm, ⟨118, _⟩ => ⟨S_, .i1⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v5 : Ref sig .tc := ⟨.hbm, 40, rfl⟩
abbrev main_c_0 : Ref sig .tc := ⟨.hbm, 41, rfl⟩
abbrev main_v6 : Ref sig .tc := ⟨.hbm, 42, rfl⟩
abbrev main_v7 : Ref sig .tc := ⟨.hbm, 43, rfl⟩
abbrev main_c_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_c_2 : Ref sig .tc := ⟨.hbm, 50, rfl⟩
abbrev main_v13 : Ref sig .tc := ⟨.hbm, 51, rfl⟩
abbrev main_v14 : Ref sig .tc := ⟨.hbm, 52, rfl⟩
abbrev main_c_3 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_c_4 : Ref sig .tc := ⟨.hbm, 59, rfl⟩
abbrev main_v20 : Ref sig .tc := ⟨.hbm, 60, rfl⟩
abbrev main_v21 : Ref sig .tc := ⟨.hbm, 61, rfl⟩
abbrev main_c_5 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c_6 : Ref sig .tc := ⟨.hbm, 68, rfl⟩
abbrev main_v27 : Ref sig .tc := ⟨.hbm, 69, rfl⟩
abbrev main_v28 : Ref sig .tc := ⟨.hbm, 70, rfl⟩
abbrev main_c_7 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_c_8 : Ref sig .tc := ⟨.hbm, 77, rfl⟩
abbrev main_v34 : Ref sig .tc := ⟨.hbm, 78, rfl⟩
abbrev main_v35 : Ref sig .tc := ⟨.hbm, 79, rfl⟩
abbrev main_c_9 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_10 : Ref sig .tc := ⟨.hbm, 86, rfl⟩
abbrev main_v41 : Ref sig .tc := ⟨.hbm, 87, rfl⟩
abbrev main_v42 : Ref sig .tc := ⟨.hbm, 88, rfl⟩
abbrev main_c_11 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_c_12 : Ref sig .tc := ⟨.hbm, 95, rfl⟩
abbrev main_v48 : Ref sig .tc := ⟨.hbm, 96, rfl⟩
abbrev main_c_13 : Ref sig .tc := ⟨.hbm, 97, rfl⟩
abbrev main_call1_v0 : Ref sig .tc := ⟨.hbm, 98, rfl⟩
abbrev main_call1_c : Ref sig .tc := ⟨.hbm, 99, rfl⟩
abbrev main_call1_v1 : Ref sig .tc := ⟨.hbm, 100, rfl⟩
abbrev main_call1_c_0 : Ref sig .tc := ⟨.hbm, 101, rfl⟩
abbrev main_call1_v2 : Ref sig .tc := ⟨.hbm, 102, rfl⟩
abbrev main_call1_v3 : Ref sig .tc := ⟨.hbm, 103, rfl⟩
abbrev main_call1_c_1 : Ref sig .tc := ⟨.hbm, 104, rfl⟩
abbrev main_call1_v4 : Ref sig .tc := ⟨.hbm, 105, rfl⟩
abbrev main_call1_c_2 : Ref sig .tc := ⟨.hbm, 106, rfl⟩
abbrev main_call1_v5 : Ref sig .tc := ⟨.hbm, 107, rfl⟩
abbrev main_call1_c_3 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_v49 : Ref sig .tc := ⟨.hbm, 113, rfl⟩
abbrev main_c_14 : Ref sig .tc := ⟨.hbm, 114, rfl⟩
abbrev main_v50 : Ref sig .tc := ⟨.hbm, 115, rfl⟩
abbrev main_c_15 : Ref sig .tc := ⟨.hbm, 116, rfl⟩
abbrev main_v51 : Ref sig .tc := ⟨.hbm, 117, rfl⟩
abbrev main_v52 : Ref sig .tc := ⟨.hbm, 118, rfl⟩

abbrev nD : Nat := 1
abbrev τ : Topo := Topo.v7x

variable {F : FTy → Type} [FloatOps F]
-- ==== Proof.Pair.lean ====
/-
  One indirect scatter issued and waited for at once, as a single step of a tile's run. The tile lends a share of the
  rows it has staged, the part of the target it owns (any set holding the rows the list names), a share of the list, and
  the semaphore at zero; it gets all of them back, the target at any contents that agree, on the part it owns, with
  "each named row overwritten by its staged row". What those contents are, read at one element, is `read_scatter_hit`
  and `read_scatter_miss`.
-/
module

public import Idealize.ShloMosaic.Lib.SparseCore.Scatter
public import Idealize.ShloMosaic.Lib.SparseCore.Ops

@[expose] public section

noncomputable section

namespace Cert.Proof.Pair

open Idealize.ShloMosaic Idealize.ShloMosaic.SparseCore
open Idealize.SL
open Idealize.SL.BI (sProp)
open scoped Idealize.SL.BI
open Idealize.SL.BI.BIBase Idealize.SL.BI.Laws Idealize.SL.Sem Idealize.SL.ProofMode
open Idealize.SL.RA

section

variable {nD : Nat} {τ : Topo} {sig : RefSig} {F : FTy → Type} (c : Thread nD τ)
variable {sp : Space} {s₀ s : Shape} {e : EltTy} {a : Nat}

/-- The element of the target under index `y` of row `r k` holds element `y` of that row's payload. -/
theorem read_scatter_hit {o : ℕ} (v : View sig c.2.kind sp s₀ e) (ax : Fin s₀.rank) (r : Fin o → Fin (s₀.size ax))
    (hinj : Function.Injective r) (w : Fin o → (s₀.rowShape ax).Idx → Elt F e) (fd : Buf (Elt F) (v.loc c))
    (k : Fin o) (y : (s₀.rowShape ax).Idx) :
    v.read (Elt F) (scatterBuf c v ax r w fd) ((s₀.rowRect ax (r k)).emb y) = w k y := by
  have hmem : v.emb ((s₀.rowRect ax (r k)).emb y) ∈ (v.slice (s₀.rowRect ax (r k))).set :=
    (v.slice (s₀.rowRect ax (r k))).emb_mem_set y
  rw [View.read_apply, scatterBuf_of_mem c v ax r hinj w fd hmem]
  exact congrFun (View.read_write_univ (v := v.slice (s₀.rowRect ax (r k))) fd (w k)) y

/-- An element whose row no word names is as it was. -/
theorem read_scatter_miss {o : ℕ} (v : View sig c.2.kind sp s₀ e) (ax : Fin s₀.rank) (r : Fin o → Fin (s₀.size ax))
    (w : Fin o → (s₀.rowShape ax).Idx → Elt F e) (fd : Buf (Elt F) (v.loc c))
    (x : s₀.Idx) (hx : ∀ k, (r k).val ≠ (x ax).val) :
    v.read (Elt F) (scatterBuf c v ax r w fd) x = v.read (Elt F) fd x := by
  rw [View.read_apply, View.read_apply, scatterBuf_of_not_mem]
  rw [namedRows_eq]
  simp only [Finset.mem_biUnion, Finset.mem_univ, true_and, not_exists]
  intro k hk
  rw [View.set_slice, Finset.mem_map] at hk
  obtain ⟨y, hy, he⟩ := hk
  have hy' := v.emb.injective he
  subst hy'
  obtain ⟨j, hj, h⟩ := (LoadRect.mem_set _).mp hy ax
  refine hx k ?_
  have h1 : (s₀.rowRect ax (r k)).size ax = 1 := by simp [Shape.rowRect, Shape.rowShape, Rect.unit]
  have h2 : (s₀.rowRect ax (r k)).off ax = (r k).val := by simp [Shape.off_rowRect]
  rw [h1] at hj
  rw [h2] at h
  have : j = 0 := by omega
  subst this
  omega

end

section

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Issue and wait, in one step: from a share of the staged rows, the target on a set `Sd` holding the named rows, a
    share of the list and the semaphore at zero, to the same with the target at any `fd'` that agrees on `Sd` with the
    scattered contents. -/
theorem wp_scatterPair [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {hsrc : src.view.WordExact} {hdst : dst.view.WordExact}
    {k : PUnit → Prog (TpuEff nD τ sig (Elt F) Λ c.2) α}
    {q qo : PosShare TreeShare} {Ss : Finset (Idx (src.view.loc c))} {fs : Buf (Elt F) (src.view.loc c)}
    {Sd : Finset (Idx (dst.view.loc c))} {fd : Buf (Elt F) (dst.view.loc c)}
    {So : Finset (Idx (offs.view.loc c))} {fo : Buf (Elt F) (offs.view.loc c)}
    {O : CellTallies nD τ sig Ix} {W : Waits sig Ix}
    (ι : Ix) (hs : 0 < s.numel) (hin : ∀ x, (offs.view.read (Elt F) fo x).toNat < s₀.size hg.axis)
    (hinj : Function.Injective fun x => (offs.view.read (Elt F) fo x).toNat)
    (hSs : src.view.set ⊆ Ss) (hSo : offs.view.set ⊆ So)
    (hSd : namedRows c dst.view hg.axis (rows (offs.view.read (Elt F) fo) hn hin) ⊆ Sd)
    (hcs : ∀ s' : Shape, sig.dmaCredit c.2.kind (c.2.kind.table .vmem) src.view.buf s' e = s'.numel * e.bits)
    (hcd : ∀ s' : Shape, sig.dmaCredit c.2.kind (c.2.kind.table sp) dst.view.buf s' e = s'.numel * e.bits)
    (fd' : Buf (Elt F) (dst.view.loc c))
    (hfd' : ∀ i ∈ Sd, scatterBuf c dst.view hg.axis (rows (offs.view.read (Elt F) fo) hn hin) (scatterRowPayload c src hg fs) fd i = fd' i) :
    iprop((src.view.loc c ↦[Ss]{q} fs) ∗ (dst.view.loc c ↦[Sd]{fullShare} fd) ∗ (offs.view.loc c ↦[So]{qo} fo)
        ∗ semVal (c, SemLoc.dma sem) 0 ∗ owes c O W ∗ MayWait c (.dma sem) ι O)
      ⊢ iprop((iprop((src.view.loc c ↦[Ss]{q} fs) ∗ (dst.view.loc c ↦[Sd]{fullShare} fd') ∗ (offs.view.loc c ↦[So]{qo} fo)
                ∗ semVal (c, SemLoc.dma sem) 0 ∗ owes c O (insert (SemLoc.dma sem, ι) W))
              -∗ wp frame (wpE defs 𝒱 c bd) Set.univ (k ⟨⟩) Q)
          -∗ wp frame (wpE defs 𝒱 c bd) Set.univ
              (enqueueIndirectScatter hp src dst hg offs hn sem he hsp hr >>= fun _ => waitIndirectScatter sem src dst hsrc hdst >>= k) Q) := by
  have hinj' : Function.Injective (rows (offs.view.read (Elt F) fo) hn hin) := rows_injective hinj
  iintro ⟨Hs, Hd, Ho, Hv, HO, Hmw⟩ Hk
  ihave Hs' := (pointsTo_split_subset hSs).1 $$ Hs
  icases Hs' with ⟨Hs, Hsr⟩
  ihave Hd' := (pointsTo_split_subset hSd).1 $$ Hd
  icases Hd' with ⟨Hd, Hdr⟩
  ihave Ho' := (pointsTo_split_subset hSo).1 $$ Ho
  icases Ho' with ⟨Ho, Hor⟩
  iapply (wp_indirectScatterLocal EC 𝒱 c bd ι src.view.dmaCredit hs hin hinj'
    (sum_scatterCredit_eq_srcCredit c src dst hg rfl _ hcs hcd)) $$ [Hs Hd Ho Hv]
  · isplitl [Hs]; · iexact Hs
    isplitl [Hd]; · iexact Hd
    isplitl [Ho] <;> iassumption
  iintro Hfl
  rw [waitIndirectScatter_bind]
  iapply (Transfers.wp_waitLocalO EC 𝒱 c bd ι (rfl : src.view.dmaCredit = _)) $$ [Hfl HO Hmw]
  · isplitl [Hfl]; · iexact Hfl
    isplitl [HO]; · iexact HO
    iexact Hmw
  iintro ⟨⟨Hd, Hs, Ho⟩, Hv, HO⟩
  iapply Hk
  isplitl [Hs Hsr]
  · iapply (pointsTo_split_subset hSs).2
    isplitl [Hs] <;> iassumption
  isplitl [Hd Hdr]
  · ihave Hdr' := (Entails.of_eq (pointsTo_rest_scatterBuf c dst.view hg.axis (rows (offs.view.read (Elt F) fo) hn hin)
      (scatterRowPayload c src hg fs) fd Sd)) $$ Hdr
    iapply (Entails.of_eq (pointsTo_congr hfd'))
    iapply (pointsTo_split_subset hSd).2
    isplitl [Hd] <;> iassumption
  isplitl [Ho Hor]
  · iapply (pointsTo_split_subset hSo).2
    isplitl [Ho] <;> iassumption
  isplitl [Hv] <;> iassumption

end

end Cert.Proof.Pair

end
-- ==== Proof.Ring.lean ====
/-
  The mathematics of the insertion, with no machine in it. A buffer of `N` rows is a ring; the new rows start at row
  `p mod N`. `ahead N p r` says how many rows past the start row `r` lies. `ringWrite N K p lo hi S D` is the buffer `D`
  with new rows `lo, …, hi - 1` of `S` put in: row `r` is new row `ahead N p r` when that number is in the range, and
  row `r` of `D` otherwise. `read_scatter_ring` says that one indirect scatter of 128 staged rows, at the words
  `(p + b + l) mod N`, puts in new rows `b, …, b + 127`.
-/
module

public import proofs.«01_k».proof.Proof.Pair
public import Idealize.ShloMosaic.Lib.ValueIdxCore
public import Idealize.ShloMosaic.Lib.Memref

@[expose] public section

noncomputable section

namespace Cert.Proof.Ring

open Idealize.ShloMosaic Idealize.ShloMosaic.SparseCore Idealize.ShloMosaic.ValueIdx Cert.Proof.Pair

/-- How many rows past row `p mod N` of a ring of `N` rows row `r` lies. -/
def ahead (N p r : ℕ) : ℕ := (r + (N - p % N)) % N

theorem ahead_lt {N : ℕ} (hN : 0 < N) (p r : ℕ) : ahead N p r < N := Nat.mod_lt _ hN

/-- Going that many rows past the start leads to row `r`. -/
theorem add_ahead {N : ℕ} (hN : 0 < N) (p : ℕ) {r : ℕ} (hr : r < N) : (p + ahead N p r) % N = r := by
  unfold ahead
  rw [Nat.add_mod_mod]
  have h1 := Nat.div_add_mod p N
  have h2 := Nat.mod_lt p hN
  have : p + (r + (N - p % N)) = r + N * (p / N + 1) := by rw [Nat.mul_add, Nat.mul_one]; omega
  rw [this, Nat.add_mul_mod_self_left, Nat.mod_eq_of_lt hr]

theorem add_mod_cancel {N : ℕ} (a : ℕ) {x y : ℕ} (hx : x < N) (hy : y < N) (h : (a + x) % N = (a + y) % N) : x = y := by
  have key : ∀ {u v : ℕ}, v < N → (a + u) % N = (a + v) % N → v ≤ u := fun {u v} hv e => by
    have e1 := Nat.sub_mod_eq_zero_of_mod_eq e.symm
    rw [Nat.add_sub_add_left] at e1
    rw [Nat.mod_eq_of_lt (by omega)] at e1
    omega
  exact Nat.le_antisymm (key hx h.symm) (key hy h)

/-- The only number below `N` that does is `ahead`. -/
theorem ahead_eq {N : ℕ} (hN : 0 < N) {p r j : ℕ} (hr : r < N) (hj : j < N) (h : (p + j) % N = r) : ahead N p r = j := by
  have h2 : (p + ahead N p r) % N = (p + j) % N := (add_ahead hN p hr).trans h.symm
  exact add_mod_cancel p (ahead_lt hN p r) hj h2

/-- A matrix of `n` rows of 128. -/
abbrev Mat (n : ℕ) : Shape := ⟨2, ![n, 128]⟩

/-- `D` with new rows `lo` to `hi - 1` of `S` put in at their places in the ring. -/
def ringWrite {α : Type} (N K p lo hi : ℕ) (S : (Mat K).Idx → α) (D : (Mat N).Idx → α) : (Mat N).Idx → α := fun x =>
  if h : lo ≤ ahead N p (x 0).val ∧ ahead N p (x 0).val < hi ∧ ahead N p (x 0).val < K then
    S (ix2 ⟨ahead N p (x 0).val, h.2.2⟩ (x 1)) else D x

/-- With no row to put in, nothing changes. -/
theorem ringWrite_self {α : Type} (N K p lo : ℕ) (S : (Mat K).Idx → α) (D : (Mat N).Idx → α) : ringWrite N K p lo lo S D = D := by
  funext x; unfold ringWrite; exact dif_neg fun h => by omega

/-- On a row that lies `lo` to `hi - 1` past the start, putting those rows in and putting all of them in agree. -/
theorem ringWrite_eq_all {α : Type} {N K p lo hi : ℕ} (S : (Mat K).Idx → α) (D : (Mat N).Idx → α) {x : (Mat N).Idx}
    (hx : lo ≤ ahead N p (x 0).val ∧ ahead N p (x 0).val < hi) : ringWrite N K p lo hi S D x = ringWrite N K p 0 K S D x := by
  unfold ringWrite
  by_cases hK : ahead N p (x 0).val < K
  · rw [dif_pos ⟨hx.1, hx.2, hK⟩, dif_pos ⟨Nat.zero_le _, hK, hK⟩]
  · rw [dif_neg fun h => hK h.2.2, dif_neg fun h => hK h.2.2]

/-- On a row that lies `K` or more past the start, putting all rows in changes nothing. -/
theorem ringWrite_all_miss {α : Type} {N K p : ℕ} (S : (Mat K).Idx → α) (D : (Mat N).Idx → α) {x : (Mat N).Idx}
    (hx : K ≤ ahead N p (x 0).val) : ringWrite N K p 0 K S D x = D x := dif_neg fun h => by omega

/-- The words of one list, one per staged row, are pairwise distinct. -/
theorem words_injective {N p b : ℕ} (hN : 128 ≤ N) (wd : (⟨1, ![128]⟩ : Shape).Idx → BitVec 32)
    (hwd : ∀ l, (wd l).toNat = (p + b + (l 0).val) % N) : Function.Injective fun x => (wd x).toNat := by
  intro x y h
  simp only [hwd] at h
  have hx : (x 0).val < 128 := (x 0).isLt
  have hy : (y 0).val < 128 := (y 0).isLt
  have h4 := add_mod_cancel (p + b) (by omega) (by omega) h
  rw [eq_ix1 x, eq_ix1 y]; congr 1; exact Fin.ext h4

/-- The index, in one row of a matrix, of column `y`. -/
def rowIx (n : ℕ) (h : 0 < 2) (y : Fin 128) : ((Mat n).rowShape ⟨0, h⟩).Idx := fun | ⟨0, _⟩ => ⟨0, Nat.one_pos⟩ | ⟨1, _⟩ => y

/-- Column `y` of row `r`, as an index of the matrix. -/
theorem row_emb {n : ℕ} (h : 0 < 2) (r : Fin n) (y : Fin 128) (i : ((Mat n).rowShape ⟨0, h⟩).Idx)
    (hi : (i ⟨1, Nat.one_lt_two⟩).val = y.val) : ((Mat n).rowRect ⟨0, h⟩ r).emb i = ix2 r y := by
  funext d
  match d with
  | ⟨0, h0⟩ =>
    apply Fin.ext
    have : (i ⟨0, h0⟩).val < 1 := (i ⟨0, h0⟩).isLt
    show r.val + 1 * (i ⟨0, h0⟩).val = r.val
    omega
  | ⟨1, h1⟩ =>
    apply Fin.ext
    show 0 + 1 * (i ⟨1, h1⟩).val = y.val
    omega

section

variable {nD : Nat} {τ : Topo} {sig : RefSig} {F : FTy → Type} (c : Thread nD τ) {sp : Space} {e : EltTy}

/-- One scatter of 128 staged rows — rows `b` to `b + 127` of `S` — at the words `(p + b + l) mod N`, read at an element. -/
theorem read_scatter_ring {N K p b : ℕ} (hNl : b + 128 ≤ N) (hK : b + 128 ≤ K)
    (src : Memref sig c.2.kind .vmem (Mat 128) e) (dst : Memref sig c.2.kind sp (Mat N) e) (hg : (Mat N).Gathers 0 (Mat 128))
    (fs : Buf (Elt F) (src.view.loc c)) (fd : Buf (Elt F) (dst.view.loc c))
    (wd : (⟨1, ![128]⟩ : Shape).Idx → Elt F .i32) (hn : (⟨1, ![128]⟩ : Shape).numel = (Mat 128).size hg.axis')
    (hin : ∀ x, (wd x).toNat < (Mat N).size hg.axis) (hwd : ∀ l, (wd l).toNat = (p + b + (l 0).val) % N)
    (S : (Mat K).Idx → Elt F e)
    (hsrc : ∀ (k : Fin 128) (y : Fin 128), src.view.read (Elt F) fs (ix2 k y) = S (ix2 ⟨b + k.val, by omega⟩ y)) (x : (Mat N).Idx) :
    dst.view.read (Elt F) (scatterBuf c dst.view hg.axis (rows wd hn hin) (scatterRowPayload c src hg fs) fd) x
      = if h : b ≤ ahead N p (x 0).val ∧ ahead N p (x 0).val < b + 128 then S (ix2 ⟨ahead N p (x 0).val, by omega⟩ (x 1))
        else dst.view.read (Elt F) fd x := by
  have hN : 0 < N := by omega
  have hr : ∀ k : Fin 128, (rows wd hn hin k).val = (p + b + k.val) % N := fun k => by
    show (wd ((⟨1, ![128]⟩ : Shape).rowMajor.symm (k.cast hn.symm))).toNat = _
    rw [hwd]
    congr 2
    rw [← Shape.rowMajor_val_one, Equiv.apply_symm_apply]; rfl
  have hx0 : (x 0).val < N := (x 0).isLt
  by_cases h : b ≤ ahead N p (x 0).val ∧ ahead N p (x 0).val < b + 128
  · rw [dif_pos h]
    obtain ⟨k, hk0⟩ : ∃ k : Fin 128, b + k.val = ahead N p (x 0).val := ⟨⟨ahead N p (x 0).val - b, by omega⟩, by
      show b + (ahead N p (x 0).val - b) = _; omega⟩
    have hk : (rows wd hn hin k).val = (x 0).val := by
      rw [hr, Nat.add_assoc, hk0, add_ahead hN p hx0]
    obtain ⟨x1, hx1⟩ : ∃ x1 : Fin 128, x1 = x 1 := ⟨x 1, rfl⟩
    have hxe : x = ((Mat N).rowRect hg.axis (rows wd hn hin k)).emb (rowIx N hg.axis.isLt x1) := by
      rw [show ((Mat N).rowRect hg.axis (rows wd hn hin k)).emb (rowIx N hg.axis.isLt x1) = ix2 (rows wd hn hin k) x1 from
        row_emb hg.axis.isLt (rows wd hn hin k) x1 _ rfl, eq_ix2 x, hx1]
      congr 1; exact Fin.ext hk.symm
    have hinj : Function.Injective (rows wd hn hin) := rows_injective (words_injective (by omega) wd hwd)
    have e0 : dst.view.read (Elt F) (scatterBuf c dst.view hg.axis (rows wd hn hin) (scatterRowPayload c src hg fs) fd) x
        = scatterRowPayload c src hg fs k (rowIx N hg.axis.isLt x1) :=
      (congrArg _ hxe).trans (read_scatter_hit c dst.view hg.axis (rows wd hn hin) hinj (scatterRowPayload c src hg fs) fd k _)
    have e1 : scatterRowPayload c src hg fs k (rowIx N hg.axis.isLt x1) = src.view.read (Elt F) fs (ix2 k x1) := by
      show src.view.read (Elt F) fs (((Mat 128).rowRect hg.axis' k).emb _) = _
      exact congrArg _ (row_emb hg.axis'.isLt k x1 _ (Shape.idxEquiv_symm_apply_val _ _ _))
    rw [e0, e1, hsrc]
    subst hx1
    congr 2
    exact Fin.ext hk0
  · rw [dif_neg h]
    refine read_scatter_miss c dst.view hg.axis (rows wd hn hin) _ fd x fun k hk => h ?_
    have hk128 : k.val < 128 := k.isLt
    have := ahead_eq hN (p := p) (r := (x 0).val) (j := b + k.val) hx0 (by omega) (by
      rw [← Nat.add_assoc, ← hr k]; exact hk)
    omega

/-- The same over contents that already have rows `lo` to `b - 1` put in: now rows `lo` to `b + 127` are. -/
theorem read_scatter_ringWrite {N K p lo b : ℕ} (hlo : lo ≤ b) (hNl : b + 128 ≤ N) (hK : b + 128 ≤ K)
    (src : Memref sig c.2.kind .vmem (Mat 128) e) (dst : Memref sig c.2.kind sp (Mat N) e) (hg : (Mat N).Gathers 0 (Mat 128))
    (fs : Buf (Elt F) (src.view.loc c)) (fd : Buf (Elt F) (dst.view.loc c))
    (wd : (⟨1, ![128]⟩ : Shape).Idx → Elt F .i32) (hn : (⟨1, ![128]⟩ : Shape).numel = (Mat 128).size hg.axis')
    (hin : ∀ x, (wd x).toNat < (Mat N).size hg.axis) (hwd : ∀ l, (wd l).toNat = (p + b + (l 0).val) % N)
    (S : (Mat K).Idx → Elt F e) (D : (Mat N).Idx → Elt F e)
    (hsrc : ∀ (k : Fin 128) (y : Fin 128), src.view.read (Elt F) fs (ix2 k y) = S (ix2 ⟨b + k.val, by omega⟩ y))
    (hD : dst.view.read (Elt F) fd = ringWrite N K p lo b S D) :
    dst.view.read (Elt F) (scatterBuf c dst.view hg.axis (rows wd hn hin) (scatterRowPayload c src hg fs) fd)
      = ringWrite N K p lo (b + 128) S D := by
  funext x
  rw [read_scatter_ring c hNl hK src dst hg fs fd wd hn hin hwd S hsrc x, hD]
  unfold ringWrite
  by_cases h : b ≤ ahead N p (x 0).val ∧ ahead N p (x 0).val < b + 128
  · rw [dif_pos h, dif_pos ⟨by omega, by omega, by omega⟩]
  · rw [dif_neg h]
    by_cases h' : lo ≤ ahead N p (x 0).val ∧ ahead N p (x 0).val < b ∧ ahead N p (x 0).val < K
    · rw [dif_pos h', dif_pos ⟨by omega, by omega, by omega⟩]
    · rw [dif_neg h', dif_neg fun h'' => by omega]

end

end Cert.Proof.Ring

end
-- ==== Proof.Setup.lean ====
/-
  The set-up of the launch: the program as the library's launch theorem takes it, the buffers, the contents a call
  starts from (`Con`), which rows of each target a tile owns (`piece`, `pieceP`), and what a tile is handed and hands
  back (`tileRes`).
-/
module

public import proofs.«01_k».proof.Defs
public import proofs.«01_k».proof.Proof.Ring
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.Kernel
public import proofs.«01_k».proof.Proof.Gen.Kernel.Skeleton

@[expose] public section

noncomputable section

namespace Cert.Proof.Setup

open Cert.Kernel Cert.Kernel.Gen Cert.Proof.Ring

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The facts about the launch semaphores and the SparseCores' buffers that the launch theorem takes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers of the call -/

abbrev obsLoc (d : Dev nD) : Loc nD τ sig := (SparseCore.T d).loc main_arg0
abbrev nxtLoc (d : Dev nD) : Loc nD τ sig := (SparseCore.T d).loc main_arg1
abbrev actLoc (d : Dev nD) : Loc nD τ sig := (SparseCore.T d).loc main_v21
abbrev pckLoc (d : Dev nD) : Loc nD τ sig := (SparseCore.T d).loc main_v22
abbrev posLoc (d : Dev nD) : Loc nD τ sig := (SparseCore.T d).loc main_v18
abbrev tobsLoc (d : Dev nD) : Loc nD τ sig := (SparseCore.T d).loc main_v23_0
abbrev tnxtLoc (d : Dev nD) : Loc nD τ sig := (SparseCore.T d).loc main_v23_1
abbrev tactLoc (d : Dev nD) : Loc nD τ sig := (SparseCore.T d).loc main_v23_2
abbrev tpckLoc (d : Dev nD) : Loc nD τ sig := (SparseCore.T d).loc main_v23_3

/-- What the call's buffers hold when it starts: the position word, the new rows, the targets' old rows. -/
structure Con (F : FTy → Type) [BitOps F] where
  /-- the position word, in every lane of the position buffer -/
  p : BitVec 32
  /-- the new observation rows -/
  sO : (Mat 16384).Idx → Elt F .f32
  /-- the new next-observation rows -/
  sN : (Mat 16384).Idx → Elt F .f32
  /-- the new action rows, four transitions to a row -/
  sA : (Mat 4096).Idx → Elt F .f32
  /-- the new packed rows, 32 transitions to a row -/
  sP : (Mat 512).Idx → Elt F .i32
  /-- the old rows of the four targets -/
  oO : (Mat 131072).Idx → Elt F .f32
  oN : (Mat 131072).Idx → Elt F .f32
  oA : (Mat 32768).Idx → Elt F .f32
  oP : (Mat 4096).Idx → Elt F .i32

/-- What the four targets hold when the call is over: the new rows put in from the position on. -/
abbrev Con.rO (C : Con F) : (Mat 131072).Idx → Elt F .f32 := ringWrite 131072 16384 C.p.toNat 0 16384 C.sO C.oO
abbrev Con.rN (C : Con F) : (Mat 131072).Idx → Elt F .f32 := ringWrite 131072 16384 C.p.toNat 0 16384 C.sN C.oN
abbrev Con.rA (C : Con F) : (Mat 32768).Idx → Elt F .f32 := ringWrite 32768 4096 (C.p.toNat / 4) 0 4096 C.sA C.oA
abbrev Con.rP (C : Con F) : (Mat 4096).Idx → Elt F .i32 := ringWrite 4096 512 (C.p.toNat / 32) 0 512 C.sP C.oP

/-! ## Which rows of a target a tile owns -/

/-- Tile `w`'s rows of a ring of `N`: the `B` rows that lie `w * B` to `w * B + B - 1` past the start. -/
def piece (N p B w : ℕ) : Finset (Mat N).Idx := Finset.univ.filter fun x => ahead N p (x 0).val / B = w

/-- The packed target has 512 new rows, in four groups of 128: one tile in eight owns a group. -/
def pieceP (p w : ℕ) : Finset (Mat 4096).Idx := Finset.univ.filter fun x => 8 * (ahead 4096 p (x 0).val / 128) = w

omit [BitOps F] in
theorem mem_piece {N p B w : ℕ} (hB : 0 < B) {x : (Mat N).Idx} :
    x ∈ piece N p B w ↔ B * w ≤ ahead N p (x 0).val ∧ ahead N p (x 0).val < B * w + B := by
  unfold piece
  rw [Finset.mem_filter]
  simp only [Finset.mem_univ, true_and]
  constructor
  · intro h
    have h1 := Nat.div_add_mod (ahead N p (x 0).val) B
    have h2 := Nat.mod_lt (ahead N p (x 0).val) hB
    rw [h] at h1
    omega
  · rintro ⟨h1, h2⟩
    refine (Nat.div_eq_iff hB).mpr ⟨?_, ?_⟩
    · rw [Nat.mul_comm]; exact h1
    · rw [Nat.mul_comm]; omega

omit [BitOps F] in
theorem mem_pieceP {p w : ℕ} {x : (Mat 4096).Idx} :
    x ∈ pieceP p w ↔ 8 * (ahead 4096 p (x 0).val / 128) = w := by
  unfold pieceP
  rw [Finset.mem_filter]
  simp only [Finset.mem_univ, true_and]

/-! ## What a tile is handed and hands back -/

/-- A tile's read share `q` of the five operands, and its rows of the four targets at the contents given. -/
def tileRes (C : Con F) (d : Dev nD) (w : ℕ) (q : PosShare TreeShare)
    (fO fN : (Mat 131072).Idx → Elt F .f32) (fA : (Mat 32768).Idx → Elt F .f32) (fP : (Mat 4096).Idx → Elt F .i32) : sProp 𝕄 :=
  iprop(((obsLoc d ↦{q} (C.sO : Buf (Elt F) (obsLoc d))) ∗ (nxtLoc d ↦{q} (C.sN : Buf (Elt F) (nxtLoc d)))
      ∗ (actLoc d ↦{q} (C.sA : Buf (Elt F) (actLoc d))) ∗ (pckLoc d ↦{q} (C.sP : Buf (Elt F) (pckLoc d)))
      ∗ (posLoc d ↦{q} ((fun _ => C.p) : Buf (Elt F) (posLoc d))))
    ∗ (tobsLoc d ↦[piece 131072 C.p.toNat 512 w]{fullShare} (fO : Buf (Elt F) (tobsLoc d)))
    ∗ (tnxtLoc d ↦[piece 131072 C.p.toNat 512 w]{fullShare} (fN : Buf (Elt F) (tnxtLoc d)))
    ∗ (tactLoc d ↦[piece 32768 (C.p.toNat / 4) 128 w]{fullShare} (fA : Buf (Elt F) (tactLoc d)))
    ∗ (tpckLoc d ↦[pieceP (C.p.toNat / 32) w]{fullShare} (fP : Buf (Elt F) (tpckLoc d))))

instance tileRes_storable (C : Con F) (d : Dev nD) (w : ℕ) (q : PosShare TreeShare)
    (fO fN : (Mat 131072).Idx → Elt F .f32) (fA : (Mat 32768).Idx → Elt F .f32) (fP : (Mat 4096).Idx → Elt F .i32) :
    BI.Storable (upEmb : UEmb _ 𝕄) (tileRes C d w q fO fN fA fP) := by
  unfold tileRes; infer_instance

/-! ## A tile's own semaphores and scratch buffers -/

abbrev cV (L : grid0.Coords) : Fin τ.nSC := (L 0).castLE hcore0
abbrev jV (L : grid0.Coords) : Fin τ.nSub := (L 1).castLE hsub0
/-- The tile's thread. -/
abbrev tV (d : Dev nD) (L : grid0.Coords) : Thread nD τ := V d (cV L) (jV L)
/-- The tile's number. -/
abbrev wid (L : grid0.Coords) : ℕ := 2 * (L 1).val + (L 0).val

/-- The six transfer semaphores of a tile. -/
abbrev tileCells (t : Thread nD τ) : Finset (GSem nD τ sig) :=
  {(t, .dma cc0_scratch7.sem), (t, .dma cc0_scoped0.sem), (t, .dma cc0_scoped1.sem), (t, .dma cc0_scoped2.sem), (t, .dma cc0_scoped3.sem), (t, .dma cc0_scoped4.sem)}

omit [BitOps F] in
theorem tileCells_sub (d : Dev nD) (L : grid0.Coords) : tileCells (tV d L) ⊆ ownCells (tV d L) := by
  intro g hg
  simp only [tileCells, Finset.mem_insert, Finset.mem_singleton] at hg
  rcases hg with rfl | rfl | rfl | rfl | rfl | rfl
  all_goals refine mem_ownCells.mpr ⟨rfl, ?_⟩
  · show (SemLoc.dma cc0_scratch7.sem : SemLoc sig).isScoped .scVector = true; decide
  · show (SemLoc.dma cc0_scoped0.sem : SemLoc sig).isScoped .scVector = true; decide
  · show (SemLoc.dma cc0_scoped1.sem : SemLoc sig).isScoped .scVector = true; decide
  · show (SemLoc.dma cc0_scoped2.sem : SemLoc sig).isScoped .scVector = true; decide
  · show (SemLoc.dma cc0_scoped3.sem : SemLoc sig).isScoped .scVector = true; decide
  · show (SemLoc.dma cc0_scoped4.sem : SemLoc sig).isScoped .scVector = true; decide

omit [BitOps F] in
theorem cell_ne (t : Thread nD τ) {a b : DmaSem sig} (h : a ≠ b) : ((t, .dma a) : GSem nD τ sig) ≠ (t, .dma b) :=
  fun e => h (SemLoc.dma.inj (Prod.mk.inj e).2)

omit [BitOps F] in
/-- The tile's semaphores: the six it uses, each at zero, and the rest. -/
theorem ownSems0_V (d : Dev nD) (L : grid0.Coords) :
    (ownSems0 (tV d L) : sProp 𝕄)
      = iprop((semVal (tV d L, .dma cc0_scratch7.sem) 0 ∗ semVal (tV d L, .dma cc0_scoped0.sem) 0 ∗ semVal (tV d L, .dma cc0_scoped1.sem) 0
          ∗ semVal (tV d L, .dma cc0_scoped2.sem) 0 ∗ semVal (tV d L, .dma cc0_scoped3.sem) 0 ∗ semVal (tV d L, .dma cc0_scoped4.sem) 0)
          ∗ bigSep (ownCells (tV d L) \ tileCells (tV d L)) fun g => semVal g 0) := by
  unfold SparseCore.Cfg.ownSems0
  rw [SparseCore.bigSep_sdiff_split' (tileCells_sub d L)]
  congr 1
  unfold tileCells
  rw [SparseCore.bigSep_insert', SparseCore.bigSep_insert', SparseCore.bigSep_insert', SparseCore.bigSep_insert', SparseCore.bigSep_insert', bigSep_singleton]
  all_goals
    simp only [Finset.mem_insert, Finset.mem_singleton, not_or]
    repeat' apply And.intro
  all_goals exact cell_ne _ (by decide)

/-- The seven scratch buffers of a tile. -/
abbrev tileRefs (L : grid0.Coords) : Finset (DevRef τ sig) :=
  {(Proc.scVector (cV L) (jV L)).devRef cc0_scratch0, (Proc.scVector (cV L) (jV L)).devRef cc0_scratch1, (Proc.scVector (cV L) (jV L)).devRef cc0_scratch2,
    (Proc.scVector (cV L) (jV L)).devRef cc0_scratch3, (Proc.scVector (cV L) (jV L)).devRef cc0_scratch4, (Proc.scVector (cV L) (jV L)).devRef cc0_scratch5,
    (Proc.scVector (cV L) (jV L)).devRef cc0_scratch6}

omit [BitOps F] in
theorem tileRefs_sub (L : grid0.Coords) : tileRefs L ⊆ ownRefs (τ := τ) (.scVector (cV L) (jV L)) := by
  intro b hb
  simp only [tileRefs, Finset.mem_insert, Finset.mem_singleton] at hb
  rcases hb with rfl | rfl | rfl | rfl | rfl | rfl | rfl
  all_goals exact SparseCore.Cfg.mem_ownRefs_of_owner (p := Proc.scVector (cV L) (jV L)) rfl

omit [BitOps F] in
theorem ref_ne (L : grid0.Coords) {a b : Ref sig .scVector} (h : a ≠ b) :
    (Proc.scVector (cV L) (jV L)).devRef a ≠ (Proc.scVector (cV L) (jV L)).devRef b :=
  fun e => h (Proc.devRef_injective _ e)

omit [BitOps F] in
/-- The tile's buffers: the seven it uses, each at some contents, and the rest. -/
theorem ownBufs_V (d : Dev nD) (L : grid0.Coords) :
    (ownBufs (tV d L) : sProp 𝕄)
      = iprop(((∃ f, (tV d L).loc cc0_scratch0 ↦{fullShare} f) ∗ (∃ f, (tV d L).loc cc0_scratch1 ↦{fullShare} f)
          ∗ (∃ f, (tV d L).loc cc0_scratch2 ↦{fullShare} f) ∗ (∃ f, (tV d L).loc cc0_scratch3 ↦{fullShare} f)
          ∗ (∃ f, (tV d L).loc cc0_scratch4 ↦{fullShare} f) ∗ (∃ f, (tV d L).loc cc0_scratch5 ↦{fullShare} f)
          ∗ (∃ f, (tV d L).loc cc0_scratch6 ↦{fullShare} f))
          ∗ bigSep (ownRefs (τ := τ) (.scVector (cV L) (jV L)) \ tileRefs L) fun b => iprop(∃ f, ((d, b) : Loc nD τ sig) ↦{fullShare} f)) := by
  unfold SparseCore.Cfg.ownBufs
  refine (SparseCore.bigSep_sdiff_split' (tileRefs_sub L)).trans ?_
  congr 1
  unfold tileRefs
  rw [SparseCore.bigSep_insert', SparseCore.bigSep_insert', SparseCore.bigSep_insert', SparseCore.bigSep_insert', SparseCore.bigSep_insert',
    SparseCore.bigSep_insert', bigSep_singleton]
  all_goals
    simp only [Finset.mem_insert, Finset.mem_singleton, not_or]
    repeat' apply And.intro
  all_goals exact ref_ne L (by decide)

/-! ## The buffers as the kernel addresses them -/

abbrev obsM : Memref sig .scVector .hbm S16384x128 .f32 := Memref.whole main_arg0_scv
abbrev nxtM : Memref sig .scVector .hbm S16384x128 .f32 := Memref.whole main_arg1_scv
abbrev actM : Memref sig .scVector .hbm S4096x128 .f32 := Memref.whole main_v21_scv
abbrev pckM : Memref sig .scVector .hbm S512x128 .i32 := Memref.whole main_v22_scv
abbrev posM : Memref sig .scVector .hbm S16 .i32 := Memref.whole main_v18_scv
abbrev tobsM : Memref sig .scVector .hbm S131072x128 .f32 := Memref.whole main_v23_0_scv
abbrev tnxtM : Memref sig .scVector .hbm S131072x128 .f32 := Memref.whole main_v23_1_scv
abbrev tactM : Memref sig .scVector .hbm S32768x128 .f32 := Memref.whole main_v23_2_scv
abbrev tpckM : Memref sig .scVector .hbm S4096x128 .i32 := Memref.whole main_v23_3_scv
abbrev rowM : Memref sig .scVector .vmem S512x128 .f32 := Memref.whole cc0_scratch0
abbrev arwM : Memref sig .scVector .vmem S128x128 .f32 := Memref.whole cc0_scratch1
abbrev prwM : Memref sig .scVector .vmem S128x128 .i32 := Memref.whole cc0_scratch2
abbrev idxM : Memref sig .scVector .vmem S4x128 .i32 := Memref.whole cc0_scratch3
abbrev idaM : Memref sig .scVector .vmem S1x128 .i32 := Memref.whole cc0_scratch4
abbrev idpM : Memref sig .scVector .vmem S1x128 .i32 := Memref.whole cc0_scratch5
abbrev pvM : Memref sig .scVector .vmem S16 .i32 := Memref.whole cc0_scratch6

end Cert.Proof.Setup

end
-- ==== Proof.Words.lean ====
/-
  The index lists a tile stores, as numbers. A list is a matrix of words; word `l` of row `t` is
  `(q + (base + 128 t + l))` masked to the low bits, `q` the position shifted. `lane_word` says that sixteen lanes
  computed the way the kernel computes them are sixteen such words; `word_toNat` says the mask is a remainder.
-/
module

public import proofs.«01_k».proof.Proof.Setup
public import Idealize.ShloMosaic.Lib.Pointwise

@[expose] public section

noncomputable section

namespace Cert.Proof.Words

open Cert.Kernel Cert.Kernel.Gen Cert.Proof.Ring Cert.Proof.Setup
open Idealize.ShloMosaic Idealize.ShloMosaic.ValueIdx

/-- The list: word `l` of row `t` is `q + (base + 128 t + l)`, masked by `m`. -/
def wordAt (r : ℕ) (q : BitVec 32) (base : ℕ) (m : BitVec 32) : (Mat r).Idx → BitVec 32 := fun y =>
  (q + BitVec.ofNat 32 (base + 128 * (y 0).val + (y 1).val)) &&& m

/-- A mask of `k` low bits is the remainder by `2 ^ k`. -/
theorem word_toNat (q : BitVec 32) (n k : ℕ) (hk : k ≤ 32) (m : BitVec 32) (hm : m.toNat = 2 ^ k - 1) :
    ((q + BitVec.ofNat 32 n) &&& m).toNat = (q.toNat + n) % 2 ^ k := by
  rw [BitVec.toNat_and, hm, Nat.and_two_pow_sub_one_eq_mod, BitVec.toNat_add, BitVec.toNat_ofNat, Nat.add_mod_mod,
    Nat.mod_mod_of_dvd _ (Nat.pow_dvd_pow 2 hk)]

/-- Adding a constant to a word known as a number. -/
theorem addc {v : BitVec 32} {n c m : ℕ} (hv : v = BitVec.ofNat 32 n) (h : n + c = m) :
    Scalar.addi v (BitVec.ofNat 32 c) = BitVec.ofNat 32 m := by
  subst hv; subst h
  exact (BitVec.ofNat_add ..).symm

/-- Sixteen lanes the kernel computes — the position's word, plus a scalar, plus the lane number, masked — stored at row
    `t`, column `c`, are the words of the list there. -/
theorem lane_word {r : ℕ} {q b m : BitVec 32} {base t c : ℕ} {inb : ∀ a, (![t, c] : Fin 2 → ℕ) a + S1x16.size a ≤ (Mat r).size a}
    (hb : b = BitVec.ofNat 32 (base + 128 * t + c)) (x : S1x16.Idx) :
    shapeCast S1x16 (andi (addi (addi (fun _ => q) (broadcast S16 b)) (iota .scVector S16 32 [0] iota_S16_d0_w32_scVector)) (broadcast S16 m)) shapeCasts_S16_S1x16 x
      = wordAt r q base m ((Rect.unit (s := Mat r) ![t, c] S1x16.size inb).emb x) := by
  subst hb
  have h0 : (x 0).val < 1 := (x 0).isLt
  have h1 : (x 1).val < 16 := (x 1).isLt
  have e : wordAt r q base m ((Rect.unit (s := Mat r) ![t, c] S1x16.size inb).emb x)
      = (q + BitVec.ofNat 32 (base + 128 * (t + 1 * (x 0).val) + (c + 1 * (x 1).val))) &&& m := rfl
  rw [e, show base + 128 * (t + 1 * (x 0).val) + (c + 1 * (x 1).val) = (base + 128 * t + c) + (x 1).val by omega, BitVec.ofNat_add _ (x 1).val,
    ← BitVec.add_assoc]
  pointwise []
  rfl

/-- A constant vector shifted down by two (by five) is the constant shifted. -/
theorem shift2 (q : BitVec 32) : k0_pay34 (fun _ => q) = fun _ => q >>> 2 := by
  funext x
  pointwise [k0_pay34]
  rfl
theorem shift5 (q : BitVec 32) : k0_pay44 (fun _ => q) = fun _ => q >>> 5 := by
  funext x
  pointwise [k0_pay44]
  rfl
theorem shift2_toNat (q : BitVec 32) : (q >>> 2).toNat = q.toNat / 4 := by simp [Nat.shiftRight_eq_div_pow]
theorem shift5_toNat (q : BitVec 32) : (q >>> 5).toNat = q.toNat / 32 := by simp [Nat.shiftRight_eq_div_pow]

/-- The group of 128 rows a tile's packed words start at, the floor division by eight spelled out. -/
def group (v1 : BitVec 32) : BitVec 32 :=
  Scalar.select
    (Scalar.andi
      (Scalar.cmpi .ne (Scalar.subi (Scalar.extui (Scalar.cmpi .sgt v1 0#32)) (Scalar.extui (Scalar.cmpi .slt v1 0#32)))
        (Scalar.subi (Scalar.extui (Scalar.cmpi .sgt 8#32 0#32)) (Scalar.extui (Scalar.cmpi .slt 8#32 0#32))))
      (Scalar.cmpi .ne (Scalar.remsi v1 8#32) 0#32))
    (Scalar.subi (Scalar.divsi v1 8#32) 1#32) (Scalar.divsi v1 8#32)

/-- The tile's number, as the kernel computes it. -/
def widW (L : grid0.Coords) : BitVec 32 := Scalar.addi (Scalar.muli (BitVec.ofNat 32 (L 1).val) 2#32) (BitVec.ofNat 32 (L 0).val)

theorem widW_eq : ∀ L : grid0.Coords, Scalar.muli (widW L) 512#32 = BitVec.ofNat 32 (512 * wid L) := by decide +kernel
theorem widW_eq' : ∀ L : grid0.Coords, Scalar.muli (widW L) 128#32 = BitVec.ofNat 32 (128 * wid L) := by decide +kernel
/-- The group's first row is 128 times the tile's number divided by eight. -/
theorem group_eq : ∀ L : grid0.Coords, Scalar.muli (group (widW L)) 128#32 = BitVec.ofNat 32 (128 * (wid L / 8)) := by decide +kernel
/-- A tile takes part in the packed insertion when its number is a multiple of eight; its rows then start there. -/
theorem cond1_iff : ∀ L : grid0.Coords, k0_cond1 L = 1#1 ↔ wid L % 8 = 0 := by decide +kernel
theorem off3_eq : ∀ L : grid0.Coords, k0_cond1 L = 1#1 → k0_off3 L = ![128 * (wid L / 8), 0] := by decide +kernel

variable {F : FTy → Type} [BitOps F]

/-- A list's buffer after stores that tile it, each putting in the words of `G` at its place, holds `G`. -/
theorem idx_writes (f : (idxM.view).ty.Contents (Elt F)) (P : List (View.Piece (Elt F) S4x128 .i32)) (G : S4x128.Idx → BitVec 32)
    (hG : ∀ p ∈ P, ∀ x, p.2 x = G (p.1.emb x)) (ht : View.Piece.tiled P ![1, 16] = true) : (idxM.view).writes (Elt F) f P = G := by
  funext y
  exact View.read_writes_apply_of_pieces (idxM.view) f G P hG y (View.cover_of_tiled P _ ht y)
theorem ida_writes (f : (idaM.view).ty.Contents (Elt F)) (P : List (View.Piece (Elt F) S1x128 .i32)) (G : S1x128.Idx → BitVec 32)
    (hG : ∀ p ∈ P, ∀ x, p.2 x = G (p.1.emb x)) (ht : View.Piece.tiled P ![1, 16] = true) : (idaM.view).writes (Elt F) f P = G := by
  funext y
  exact View.read_writes_apply_of_pieces (idaM.view) f G P hG y (View.cover_of_tiled P _ ht y)
theorem idp_writes (f : (idpM.view).ty.Contents (Elt F)) (P : List (View.Piece (Elt F) S1x128 .i32)) (G : S1x128.Idx → BitVec 32)
    (hG : ∀ p ∈ P, ∀ x, p.2 x = G (p.1.emb x)) (ht : View.Piece.tiled P ![1, 16] = true) : (idpM.view).writes (Elt F) f P = G := by
  funext y
  exact View.read_writes_apply_of_pieces (idpM.view) f G P hG y (View.cover_of_tiled P _ ht y)

end Cert.Proof.Words

end
-- ==== Proof.Step.lean ====
/-
  One scatter of 128 staged rows into a ring, as a single step of a tile's run: the target's contents go from "new rows
  `lo` to `b - 1` put in" to "new rows `lo` to `b + 127` put in", on the rows the tile owns. After the step's rule come
  the readings of the views the kernel takes of its buffers: a target whole, a row of a list, 128 of the staged rows.
-/
module

public import proofs.«01_k».proof.Proof.Words

@[expose] public section

noncomputable section

namespace Cert.Proof.Step

open Idealize.ShloMosaic Idealize.ShloMosaic.SparseCore Idealize.ShloMosaic.ValueIdx
open Idealize.SL
open Idealize.SL.BI (sProp)
open scoped Idealize.SL.BI
open Idealize.SL.BI.BIBase Idealize.SL.BI.Laws Idealize.SL.Sem Idealize.SL.ProofMode
open Idealize.SL.RA
open Cert.Proof.Ring Cert.Proof.Pair

/-- An index of a row has that row's number on the row axis. -/
theorem row_mem {s₀ : Shape} (ax : Fin s₀.rank) (r : Fin (s₀.size ax)) {y : s₀.Idx} (hy : y ∈ (s₀.rowRect ax r).set) : (y ax).val = r.val := by
  obtain ⟨v, hv, h⟩ := (LoadRect.mem_set _).mp hy ax
  have h1 : (s₀.rowRect ax r).size ax = 1 := by simp [Shape.rowRect, Shape.rowShape, Rect.unit]
  have h2 : (s₀.rowRect ax r).off ax = r.val := by simp [Shape.off_rowRect]
  rw [h1] at hv
  rw [h2] at h
  have : v = 0 := by omega
  subst this
  omega

section

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {e : EltTy} {α : Type} {Q : α → sProp (MT nD τ sig Ix (Elt F) Name U Lvl)}

local notation "𝕄" => MT nD τ sig Ix (Elt F) Name U Lvl

/-- Issue and wait: new rows `b` to `b + 127` go in after rows `lo` to `b - 1`. -/
theorem wp_ringPair [Infinite Name] [EC.LandsIn (upEmb : UEmb _ 𝕄)] {N K : ℕ}
    {src : Memref sig c.2.kind .vmem (Mat 128) e} {dst : Memref sig c.2.kind sp (Mat N) e} {hg : (Mat N).Gathers 0 (Mat 128)}
    {offs : Memref sig c.2.kind .vmem ⟨1, ![128]⟩ .i32} {hn : (⟨1, ![128]⟩ : Shape).numel = (Mat 128).size hg.axis'} {sem : DmaSem sig}
    {hp : c.2.kind = .scVector} {he : e.bits = 32} {hsp : sp = .hbm ∨ sp = .shared} {hr : (Mat N).StreamRows 0}
    {hsrc : src.view.WordExact} {hdst : dst.view.WordExact}
    {k : PUnit → Prog (TpuEff nD τ sig (Elt F) Λ c.2) α}
    {q qo : PosShare TreeShare} {fs : Buf (Elt F) (src.view.loc c)}
    {Sd : Finset (Idx (dst.view.loc c))} {fd : Buf (Elt F) (dst.view.loc c)} {fo : Buf (Elt F) (offs.view.loc c)}
    {O : CellTallies nD τ sig Ix} {W : Waits sig Ix}
    (ι : Ix) (p lo b : ℕ) (hlo : lo ≤ b) (hNl : b + 128 ≤ N) (hK : b + 128 ≤ K) (S : (Mat K).Idx → Elt F e) (D : (Mat N).Idx → Elt F e)
    (hwd : ∀ l, (offs.view.read (Elt F) fo l).toNat = (p + b + (l 0).val) % N)
    (hS : ∀ (k : Fin 128) (y : Fin 128), src.view.read (Elt F) fs (ValueIdx.ix2 k y) = S (ValueIdx.ix2 ⟨b + k.val, by omega⟩ y))
    (hfd : dst.view.read (Elt F) fd = ringWrite N K p lo b S D)
    (hSd : ∀ x : (Mat N).Idx, b ≤ ahead N p (x 0).val → ahead N p (x 0).val < b + 128 → dst.view.emb x ∈ Sd)
    (hcs : ∀ s' : Shape, sig.dmaCredit c.2.kind (c.2.kind.table .vmem) src.view.buf s' e = s'.numel * e.bits)
    (hcd : ∀ s' : Shape, sig.dmaCredit c.2.kind (c.2.kind.table sp) dst.view.buf s' e = s'.numel * e.bits)
    (fd' : Buf (Elt F) (dst.view.loc c)) (hfd' : dst.view.read (Elt F) fd' = ringWrite N K p lo (b + 128) S D)
    (hall : ∀ i, ∃ x, dst.view.emb x = i) :
    iprop((src.view.loc c ↦{q} fs) ∗ (dst.view.loc c ↦[Sd]{fullShare} fd) ∗ (offs.view.loc c ↦{qo} fo)
        ∗ semVal (c, SemLoc.dma sem) 0 ∗ owes c O W ∗ MayWait c (.dma sem) ι O)
      ⊢ iprop((iprop((src.view.loc c ↦{q} fs) ∗ (dst.view.loc c ↦[Sd]{fullShare} fd') ∗ (offs.view.loc c ↦{qo} fo)
                ∗ semVal (c, SemLoc.dma sem) 0 ∗ owes c O (insert (SemLoc.dma sem, ι) W))
              -∗ wp frame (wpE defs 𝒱 c bd) Set.univ (k ⟨⟩) Q)
          -∗ wp frame (wpE defs 𝒱 c bd) Set.univ
              (enqueueIndirectScatter hp src dst hg offs hn sem he hsp hr >>= fun _ => waitIndirectScatter sem src dst hsrc hdst >>= k) Q) := by
  have hN : 0 < N := by omega
  have hin : ∀ x, (offs.view.read (Elt F) fo x).toNat < (Mat N).size hg.axis := fun x => by
    rw [hwd x]; exact Nat.mod_lt _ hN
  have hinj : Function.Injective fun x => (offs.view.read (Elt F) fo x).toNat := words_injective (by omega) _ hwd
  refine wp_scatterPair EC 𝒱 c bd ι (show 0 < (Mat 128).numel by decide) hin hinj (Finset.subset_univ _) (Finset.subset_univ _) ?_ hcs hcd fd' ?_
  · rw [namedRows_eq]
    intro i hi
    simp only [Finset.mem_biUnion, Finset.mem_univ, _root_.true_and] at hi
    obtain ⟨j, hj⟩ := hi
    rw [View.set_slice, Finset.mem_map] at hj
    obtain ⟨y, hy, rfl⟩ := hj
    have hj128 : j.val < 128 := j.isLt
    have hrow : (y 0).val = (p + b + j.val) % N := by
      have h := row_mem hg.axis _ hy
      have h3 : (rows (offs.view.read (Elt F) fo) hn hin j).val = (p + b + j.val) % N := by
        show (offs.view.read (Elt F) fo ((⟨1, ![128]⟩ : Shape).rowMajor.symm (j.cast hn.symm))).toNat = _
        rw [hwd]
        congr 2
        rw [← Shape.rowMajor_val_one, Equiv.apply_symm_apply]; rfl
      rw [← h3]
      exact h
    have ha : ahead N p (y 0).val = b + j.val := ahead_eq hN (y 0).isLt (by omega) (by rw [← Nat.add_assoc]; exact hrow.symm)
    exact hSd y (by omega) (by omega)
  · intro i _
    obtain ⟨x, rfl⟩ := hall i
    have h1 := read_scatter_ringWrite c hlo hNl hK src dst hg fs fd (offs.view.read (Elt F) fo) hn hin hwd S D hS hfd
    have h2 := congrFun (h1.trans hfd'.symm) x
    rw [View.read_apply, View.read_apply] at h2
    exact cast_inj _ |>.mp h2

end

section

open Cert.Kernel Cert.Kernel.Gen Cert.Proof.Setup Cert.Proof.Words
open Idealize.ShloMosaic.SparseCore.Cfg (HIx)

variable {F : FTy → Type} [BitOps F]

/-- Rows `b, b + 1, …` of `S`, as a matrix of `n` rows. -/
def stage {α : Type} (n K b : ℕ) (h : b + n ≤ K) (S : (Mat K).Idx → α) : (Mat n).Idx → α := fun x =>
  S (ValueIdx.ix2 ⟨b + (x 0).val, Nat.lt_of_lt_of_le (Nat.add_lt_add_left (x 0).isLt b) h⟩ (x 1))

/-- In a matrix's rectangle from row 0, column 0, an index's place is the index. -/
theorem full_emb {N : ℕ} (inb : ∀ a, (![0, 0] : Fin 2 → ℕ) a + (Mat N).size a ≤ (Mat N).size a) (x : (Mat N).Idx) :
    (Rect.unit (s := Mat N) ![0, 0] (Mat N).size inb).emb x = x := by
  funext a
  refine Fin.ext ?_
  match a with
  | ⟨0, _⟩ => show 0 + 1 * (x 0).val = (x 0).val; omega
  | ⟨1, _⟩ => show 0 + 1 * (x 1).val = (x 1).val; omega

/-! The kernel addresses a target as its slice from row 0 of all its rows: an element's place is the element itself. -/

theorem tobs_emb (inb : ∀ a, (![0, 0] : Fin 2 → ℕ) a + S131072x128.size a ≤ S131072x128.size a) (h) (x : S131072x128.Idx) :
    (tobsM.slice (Rect.unit (s := S131072x128) ![0, 0] S131072x128.size inb) h).view.emb x = x := by
  exact full_emb inb x
theorem tobs_read (inb : ∀ a, (![0, 0] : Fin 2 → ℕ) a + S131072x128.size a ≤ S131072x128.size a) (h) (f : S131072x128.Idx → Elt F .f32) :
    (tobsM.slice (Rect.unit (s := S131072x128) ![0, 0] S131072x128.size inb) h).view.read (Elt F) f = f := by
  funext x
  exact congrArg f (full_emb inb x)

theorem tnxt_emb (inb : ∀ a, (![0, 0] : Fin 2 → ℕ) a + S131072x128.size a ≤ S131072x128.size a) (h) (x : S131072x128.Idx) :
    (tnxtM.slice (Rect.unit (s := S131072x128) ![0, 0] S131072x128.size inb) h).view.emb x = x := by
  exact full_emb inb x
theorem tnxt_read (inb : ∀ a, (![0, 0] : Fin 2 → ℕ) a + S131072x128.size a ≤ S131072x128.size a) (h) (f : S131072x128.Idx → Elt F .f32) :
    (tnxtM.slice (Rect.unit (s := S131072x128) ![0, 0] S131072x128.size inb) h).view.read (Elt F) f = f := by
  funext x
  exact congrArg f (full_emb inb x)

theorem tact_emb (inb : ∀ a, (![0, 0] : Fin 2 → ℕ) a + S32768x128.size a ≤ S32768x128.size a) (h) (x : S32768x128.Idx) :
    (tactM.slice (Rect.unit (s := S32768x128) ![0, 0] S32768x128.size inb) h).view.emb x = x := by
  exact full_emb inb x
theorem tact_read (inb : ∀ a, (![0, 0] : Fin 2 → ℕ) a + S32768x128.size a ≤ S32768x128.size a) (h) (f : S32768x128.Idx → Elt F .f32) :
    (tactM.slice (Rect.unit (s := S32768x128) ![0, 0] S32768x128.size inb) h).view.read (Elt F) f = f := by
  funext x
  exact congrArg f (full_emb inb x)

theorem tpck_emb (inb : ∀ a, (![0, 0] : Fin 2 → ℕ) a + S4096x128.size a ≤ S4096x128.size a) (h) (x : S4096x128.Idx) :
    (tpckM.slice (Rect.unit (s := S4096x128) ![0, 0] S4096x128.size inb) h).view.emb x = x := by
  exact full_emb inb x
theorem tpck_read (inb : ∀ a, (![0, 0] : Fin 2 → ℕ) a + S4096x128.size a ≤ S4096x128.size a) (h) (f : S4096x128.Idx → Elt F .i32) :
    (tpckM.slice (Rect.unit (s := S4096x128) ![0, 0] S4096x128.size inb) h).view.read (Elt F) f = f := by
  funext x
  exact congrArg f (full_emb inb x)

/-! Row `t` of a list, as the vector the scatter reads. -/

theorem idx_read (q m : BitVec 32) (base t : ℕ) (inb : ∀ a, (![t, 0] : Fin 2 → ℕ) a + S1x128.size a ≤ S4x128.size a) (h) (hq) (l : S128.Idx) :
    ((idxM.slice (Rect.unit (s := S4x128) ![t, 0] S1x128.size inb) h).squeeze S128 hq).view.read (Elt F) (wordAt 4 q base m) l
      = (q + BitVec.ofNat 32 (base + 128 * t + (l 0).val)) &&& m := by
  show wordAt 4 q base m ((Rect.unit (s := S4x128) ![t, 0] S1x128.size inb).emb (Shape.reshapeEquiv hq.numel_eq l)) = _
  rw [show Shape.reshapeEquiv hq.numel_eq l = ValueIdx.ix2 (0 : Fin 1) (l 0) from
    (Shape.reshapeEquiv_cons_one (n := 1) (d := ![128]) hq.numel_eq l).trans (by funext a; match a with | ⟨0, _⟩ => rfl | ⟨1, _⟩ => rfl)]
  show (q + BitVec.ofNat 32 (base + 128 * (t + 1 * 0) + (0 + 1 * (l 0).val))) &&& m = _
  rw [show base + 128 * (t + 1 * 0) + (0 + 1 * (l 0).val) = base + 128 * t + (l 0).val by omega]

theorem ida_read (q m : BitVec 32) (base t : ℕ) (inb : ∀ a, (![t, 0] : Fin 2 → ℕ) a + S1x128.size a ≤ S1x128.size a) (h) (hq) (l : S128.Idx) :
    ((idaM.slice (Rect.unit (s := S1x128) ![t, 0] S1x128.size inb) h).squeeze S128 hq).view.read (Elt F) (wordAt 1 q base m) l
      = (q + BitVec.ofNat 32 (base + 128 * t + (l 0).val)) &&& m := by
  show wordAt 1 q base m ((Rect.unit (s := S1x128) ![t, 0] S1x128.size inb).emb (Shape.reshapeEquiv hq.numel_eq l)) = _
  rw [show Shape.reshapeEquiv hq.numel_eq l = ValueIdx.ix2 (0 : Fin 1) (l 0) from
    (Shape.reshapeEquiv_cons_one (n := 1) (d := ![128]) hq.numel_eq l).trans (by funext a; match a with | ⟨0, _⟩ => rfl | ⟨1, _⟩ => rfl)]
  show (q + BitVec.ofNat 32 (base + 128 * (t + 1 * 0) + (0 + 1 * (l 0).val))) &&& m = _
  rw [show base + 128 * (t + 1 * 0) + (0 + 1 * (l 0).val) = base + 128 * t + (l 0).val by omega]

theorem idp_read (q m : BitVec 32) (base t : ℕ) (inb : ∀ a, (![t, 0] : Fin 2 → ℕ) a + S1x128.size a ≤ S1x128.size a) (h) (hq) (l : S128.Idx) :
    ((idpM.slice (Rect.unit (s := S1x128) ![t, 0] S1x128.size inb) h).squeeze S128 hq).view.read (Elt F) (wordAt 1 q base m) l
      = (q + BitVec.ofNat 32 (base + 128 * t + (l 0).val)) &&& m := by
  show wordAt 1 q base m ((Rect.unit (s := S1x128) ![t, 0] S1x128.size inb).emb (Shape.reshapeEquiv hq.numel_eq l)) = _
  rw [show Shape.reshapeEquiv hq.numel_eq l = ValueIdx.ix2 (0 : Fin 1) (l 0) from
    (Shape.reshapeEquiv_cons_one (n := 1) (d := ![128]) hq.numel_eq l).trans (by funext a; match a with | ⟨0, _⟩ => rfl | ⟨1, _⟩ => rfl)]
  show (q + BitVec.ofNat 32 (base + 128 * (t + 1 * 0) + (0 + 1 * (l 0).val))) &&& m = _
  rw [show base + 128 * (t + 1 * 0) + (0 + 1 * (l 0).val) = base + 128 * t + (l 0).val by omega]

/-! 128 of the staged rows. -/

theorem row_read {K b t : ℕ} (hb : b + 512 ≤ K) (S : (Mat K).Idx → Elt F .f32) (inb : ∀ a, (![t, 0] : Fin 2 → ℕ) a + S128x128.size a ≤ S512x128.size a) (h)
    (k y : Fin 128) (hk : b + t + k.val < K) :
    (rowM.slice (Rect.unit (s := S512x128) ![t, 0] S128x128.size inb) h).view.read (Elt F) (stage 512 K b hb S) (ValueIdx.ix2 k y)
      = S (ValueIdx.ix2 ⟨b + t + k.val, hk⟩ y) := by
  show stage 512 K b hb S ((Rect.unit (s := S512x128) ![t, 0] S128x128.size inb).emb (ValueIdx.ix2 k y)) = _
  unfold stage
  congr 1
  funext a
  refine Fin.ext ?_
  match a with
  | ⟨0, _⟩ => show b + (t + 1 * k.val) = b + t + k.val; omega
  | ⟨1, _⟩ => show 0 + 1 * y.val = y.val; omega

theorem arw_read {K b t : ℕ} (hb : b + 128 ≤ K) (S : (Mat K).Idx → Elt F .f32) (inb : ∀ a, (![t, 0] : Fin 2 → ℕ) a + S128x128.size a ≤ S128x128.size a) (h)
    (k y : Fin 128) (hk : b + t + k.val < K) :
    (arwM.slice (Rect.unit (s := S128x128) ![t, 0] S128x128.size inb) h).view.read (Elt F) (stage 128 K b hb S) (ValueIdx.ix2 k y)
      = S (ValueIdx.ix2 ⟨b + t + k.val, hk⟩ y) := by
  show stage 128 K b hb S ((Rect.unit (s := S128x128) ![t, 0] S128x128.size inb).emb (ValueIdx.ix2 k y)) = _
  unfold stage
  congr 1
  funext a
  refine Fin.ext ?_
  match a with
  | ⟨0, _⟩ => show b + (t + 1 * k.val) = b + t + k.val; omega
  | ⟨1, _⟩ => show 0 + 1 * y.val = y.val; omega

theorem prw_read {K b t : ℕ} (hb : b + 128 ≤ K) (S : (Mat K).Idx → Elt F .i32) (inb : ∀ a, (![t, 0] : Fin 2 → ℕ) a + S128x128.size a ≤ S128x128.size a) (h)
    (k y : Fin 128) (hk : b + t + k.val < K) :
    (prwM.slice (Rect.unit (s := S128x128) ![t, 0] S128x128.size inb) h).view.read (Elt F) (stage 128 K b hb S) (ValueIdx.ix2 k y)
      = S (ValueIdx.ix2 ⟨b + t + k.val, hk⟩ y) := by
  show stage 128 K b hb S ((Rect.unit (s := S128x128) ![t, 0] S128x128.size inb).emb (ValueIdx.ix2 k y)) = _
  unfold stage
  congr 1
  funext a
  refine Fin.ext ?_
  match a with
  | ⟨0, _⟩ => show b + (t + 1 * k.val) = b + t + k.val; omega
  | ⟨1, _⟩ => show 0 + 1 * y.val = y.val; omega

/-! The staged rows are the tile's own, of its operand. -/

theorem obs_read {b : ℕ} {off : Fin 2 → ℕ} (hoff : off = ![b, 0]) (hb : b + 512 ≤ 16384) (S : (Mat 16384).Idx → Elt F .f32)
    (inb : ∀ a, off a + S512x128.size a ≤ S16384x128.size a) (h) :
    (obsM.slice (Rect.unit (s := S16384x128) off S512x128.size inb) h).view.read (Elt F) S = stage 512 16384 b hb S := by
  subst hoff
  funext x
  show S ((Rect.unit (s := S16384x128) ![b, 0] S512x128.size inb).emb x) = _
  unfold stage
  congr 1
  funext a
  refine Fin.ext ?_
  match a with
  | ⟨0, _⟩ => show b + 1 * (x 0).val = b + (x 0).val; omega
  | ⟨1, _⟩ => show 0 + 1 * (x 1).val = (x 1).val; omega

theorem nxt_read {b : ℕ} {off : Fin 2 → ℕ} (hoff : off = ![b, 0]) (hb : b + 512 ≤ 16384) (S : (Mat 16384).Idx → Elt F .f32)
    (inb : ∀ a, off a + S512x128.size a ≤ S16384x128.size a) (h) :
    (nxtM.slice (Rect.unit (s := S16384x128) off S512x128.size inb) h).view.read (Elt F) S = stage 512 16384 b hb S := by
  subst hoff
  funext x
  show S ((Rect.unit (s := S16384x128) ![b, 0] S512x128.size inb).emb x) = _
  unfold stage
  congr 1
  funext a
  refine Fin.ext ?_
  match a with
  | ⟨0, _⟩ => show b + 1 * (x 0).val = b + (x 0).val; omega
  | ⟨1, _⟩ => show 0 + 1 * (x 1).val = (x 1).val; omega

theorem act_read {b : ℕ} {off : Fin 2 → ℕ} (hoff : off = ![b, 0]) (hb : b + 128 ≤ 4096) (S : (Mat 4096).Idx → Elt F .f32)
    (inb : ∀ a, off a + S128x128.size a ≤ S4096x128.size a) (h) :
    (actM.slice (Rect.unit (s := S4096x128) off S128x128.size inb) h).view.read (Elt F) S = stage 128 4096 b hb S := by
  subst hoff
  funext x
  show S ((Rect.unit (s := S4096x128) ![b, 0] S128x128.size inb).emb x) = _
  unfold stage
  congr 1
  funext a
  refine Fin.ext ?_
  match a with
  | ⟨0, _⟩ => show b + 1 * (x 0).val = b + (x 0).val; omega
  | ⟨1, _⟩ => show 0 + 1 * (x 1).val = (x 1).val; omega

theorem pck_read {b : ℕ} {off : Fin 2 → ℕ} (hoff : off = ![b, 0]) (hb : b + 128 ≤ 512) (S : (Mat 512).Idx → Elt F .i32)
    (inb : ∀ a, off a + S128x128.size a ≤ S512x128.size a) (h) :
    (pckM.slice (Rect.unit (s := S512x128) off S128x128.size inb) h).view.read (Elt F) S = stage 128 512 b hb S := by
  subst hoff
  funext x
  show S ((Rect.unit (s := S512x128) ![b, 0] S128x128.size inb).emb x) = _
  unfold stage
  congr 1
  funext a
  refine Fin.ext ?_
  match a with
  | ⟨0, _⟩ => show b + 1 * (x 0).val = b + (x 0).val; omega
  | ⟨1, _⟩ => show 0 + 1 * (x 1).val = (x 1).val; omega

theorem off1_eq : ∀ L : grid0.Coords, k0_off1 L = ![512 * wid L, 0] := by decide +kernel
theorem off2_eq : ∀ L : grid0.Coords, k0_off2 L = ![128 * wid L, 0] := by decide +kernel
theorem wid_lt (L : grid0.Coords) : wid L < 32 := by
  have h0 : (L 0).val < 2 := (L 0).isLt
  have h1 : (L 1).val < 16 := (L 1).isLt
  show 2 * (L 1).val + (L 0).val < 32
  omega

/-! ## The ten scatters: each target's step

Before the step the tile's rows of the target have new rows up to offset `o` of its share put in, after it up to
`o + 128`. -/

local notation "𝕄" => MT nD τ sig (HIx 1) (Elt F) ℕ UU ℕ

set_option maxHeartbeats 8000000 in
/-- One scatter into the target `tobs`. -/
theorem wp_tobs (C : Con F) (d : Dev nD) (L : grid0.Coords) {α : Type} {Q : α → sProp 𝕄} {o i : ℕ} (ho : o = 128 * i) (hi : i < 4)
    {inb1 : ∀ a, (![o, 0] : Fin 2 → ℕ) a + S128x128.size a ≤ S512x128.size a} {h1}
    {inb2 : ∀ a, (![i, 0] : Fin 2 → ℕ) a + S1x128.size a ≤ S4x128.size a} {h2 hq}
    {inb3 : ∀ a, (![0, 0] : Fin 2 → ℕ) a + S131072x128.size a ≤ S131072x128.size a} {h3}
    {hg : S131072x128.Gathers 0 S128x128} {hn : S128.numel = S128x128.size hg.axis'} {hp} {he} {hsp} {hr} {hsrc} {hdst}
    {k : PUnit → Prog (TpuEff nD τ sig (Elt F) Λ₀ (tV d L).2) α}
    (O : CellTallies nD τ sig (HIx 1)) (W : Waits sig (HIx 1)) (hb : 512 * wid L + 512 ≤ 16384) :
    iprop((rowM.view.loc (tV d L) ↦{fullShare} stage 512 16384 (512 * wid L) hb C.sO)
        ∗ (tobsLoc d ↦[piece 131072 C.p.toNat 512 (wid L)]{fullShare} (ringWrite 131072 16384 C.p.toNat (512 * wid L) (512 * wid L + o) C.sO C.oO : Buf (Elt F) (tobsLoc d)))
        ∗ (idxM.view.loc (tV d L) ↦{fullShare} wordAt 4 C.p (512 * wid L) 131071#32)
        ∗ semVal (tV d L, SemLoc.dma cc0_scratch7.sem) 0 ∗ owes (tV d L) O W ∗ MayWait (tV d L) (.dma cc0_scratch7.sem) (default : HIx 1) O)
      ⊢ iprop((iprop((rowM.view.loc (tV d L) ↦{fullShare} stage 512 16384 (512 * wid L) hb C.sO)
                ∗ (tobsLoc d ↦[piece 131072 C.p.toNat 512 (wid L)]{fullShare} (ringWrite 131072 16384 C.p.toNat (512 * wid L) (512 * wid L + (o + 128)) C.sO C.oO : Buf (Elt F) (tobsLoc d)))
                ∗ (idxM.view.loc (tV d L) ↦{fullShare} wordAt 4 C.p (512 * wid L) 131071#32)
                ∗ semVal (tV d L, SemLoc.dma cc0_scratch7.sem) 0 ∗ owes (tV d L) O (insert (SemLoc.dma cc0_scratch7.sem, (default : HIx 1)) W))
              -∗ wp frame (wpE (defs₀ (F := F)) 𝒱₀ (tV d L) none) Set.univ (k ⟨⟩) Q)
          -∗ wp frame (wpE (defs₀ (F := F)) 𝒱₀ (tV d L) none) Set.univ
              (enqueueIndirectScatter hp (rowM.slice (Rect.unit (s := S512x128) ![o, 0] S128x128.size inb1) h1)
                  (tobsM.slice (Rect.unit (s := S131072x128) ![0, 0] S131072x128.size inb3) h3) hg
                  ((idxM.slice (Rect.unit (s := S4x128) ![i, 0] S1x128.size inb2) h2).squeeze S128 hq) hn cc0_scratch7.sem he hsp hr
                >>= fun _ => waitIndirectScatter cc0_scratch7.sem (rowM.slice (Rect.unit (s := S512x128) ![o, 0] S128x128.size inb1) h1)
                  (tobsM.slice (Rect.unit (s := S131072x128) ![0, 0] S131072x128.size inb3) h3) hsrc hdst >>= k) Q) := by
  have hw := wid_lt L
  iintro ⟨H0, Hto, H3, Hsem, HO, Hmw⟩ Hk
  iapply (wp_ringPair (F := F) (q := fullShare) (qo := fullShare) (fs := stage 512 16384 (512 * wid L) hb C.sO)
    (Sd := piece 131072 C.p.toNat 512 (wid L)) (fd := ringWrite 131072 16384 C.p.toNat (512 * wid L) (512 * wid L + o) C.sO C.oO)
    (fo := wordAt 4 C.p (512 * wid L) 131071#32) (O := O) (W := W) countersEmb 𝒱₀ (tV d L) none (default : HIx 1)
    C.p.toNat (512 * wid L) (512 * wid L + o) (by omega) (by omega) (by omega)
    C.sO C.oO ?hwd ?hS ?hfd ?hSd (fun _ => rfl) (fun _ => rfl) (ringWrite 131072 16384 C.p.toNat (512 * wid L) (512 * wid L + (o + 128)) C.sO C.oO) ?hfd' ?hall) $$ [H0 Hto H3 Hsem HO Hmw]
  rotate_right 2
  · isplitl [H0]; · iexact H0
    isplitl [Hto]; · iexact Hto
    isplitl [H3]; · iexact H3
    isplitl [Hsem]; · iexact Hsem
    isplitl [HO]; · iexact HO
    iexact Hmw
  · iintro ⟨H0, Hto, H3, Hsem, HO⟩
    iapply Hk
    isplitl [H0]; · iexact H0
    isplitl [Hto]; · iexact Hto
    isplitl [H3]; · iexact H3
    isplitl [Hsem]; · iexact Hsem
    iexact HO
  · intro l
    refine (congrArg BitVec.toNat (idx_read (F := F) C.p 131071#32 (512 * wid L) i inb2 h2 hq l)).trans ?_
    rw [word_toNat _ _ 17 (by omega) _ (by decide)]
    subst ho
    rw [← Nat.add_assoc, ← Nat.add_assoc]
    simp only [Nat.reducePow]
  · intro k y
    exact row_read (F := F) hb C.sO inb1 h1 k y _
  · exact tobs_read inb3 h3 _
  · intro x hx1 hx2
    refine (congrArg (· ∈ _) (tobs_emb inb3 h3 x)).mpr ?_
    exact (mem_piece (by omega)).mpr ⟨by omega, by omega⟩
  · exact tobs_read inb3 h3 _
  · exact fun x => ⟨x, tobs_emb inb3 h3 x⟩

set_option maxHeartbeats 8000000 in
/-- One scatter into the target `tnxt`. -/
theorem wp_tnxt (C : Con F) (d : Dev nD) (L : grid0.Coords) {α : Type} {Q : α → sProp 𝕄} {o i : ℕ} (ho : o = 128 * i) (hi : i < 4)
    {inb1 : ∀ a, (![o, 0] : Fin 2 → ℕ) a + S128x128.size a ≤ S512x128.size a} {h1}
    {inb2 : ∀ a, (![i, 0] : Fin 2 → ℕ) a + S1x128.size a ≤ S4x128.size a} {h2 hq}
    {inb3 : ∀ a, (![0, 0] : Fin 2 → ℕ) a + S131072x128.size a ≤ S131072x128.size a} {h3}
    {hg : S131072x128.Gathers 0 S128x128} {hn : S128.numel = S128x128.size hg.axis'} {hp} {he} {hsp} {hr} {hsrc} {hdst}
    {k : PUnit → Prog (TpuEff nD τ sig (Elt F) Λ₀ (tV d L).2) α}
    (O : CellTallies nD τ sig (HIx 1)) (W : Waits sig (HIx 1)) (hb : 512 * wid L + 512 ≤ 16384) :
    iprop((rowM.view.loc (tV d L) ↦{fullShare} stage 512 16384 (512 * wid L) hb C.sN)
        ∗ (tnxtLoc d ↦[piece 131072 C.p.toNat 512 (wid L)]{fullShare} (ringWrite 131072 16384 C.p.toNat (512 * wid L) (512 * wid L + o) C.sN C.oN : Buf (Elt F) (tnxtLoc d)))
        ∗ (idxM.view.loc (tV d L) ↦{fullShare} wordAt 4 C.p (512 * wid L) 131071#32)
        ∗ semVal (tV d L, SemLoc.dma cc0_scratch7.sem) 0 ∗ owes (tV d L) O W ∗ MayWait (tV d L) (.dma cc0_scratch7.sem) (default : HIx 1) O)
      ⊢ iprop((iprop((rowM.view.loc (tV d L) ↦{fullShare} stage 512 16384 (512 * wid L) hb C.sN)
                ∗ (tnxtLoc d ↦[piece 131072 C.p.toNat 512 (wid L)]{fullShare} (ringWrite 131072 16384 C.p.toNat (512 * wid L) (512 * wid L + (o + 128)) C.sN C.oN : Buf (Elt F) (tnxtLoc d)))
                ∗ (idxM.view.loc (tV d L) ↦{fullShare} wordAt 4 C.p (512 * wid L) 131071#32)
                ∗ semVal (tV d L, SemLoc.dma cc0_scratch7.sem) 0 ∗ owes (tV d L) O (insert (SemLoc.dma cc0_scratch7.sem, (default : HIx 1)) W))
              -∗ wp frame (wpE (defs₀ (F := F)) 𝒱₀ (tV d L) none) Set.univ (k ⟨⟩) Q)
          -∗ wp frame (wpE (defs₀ (F := F)) 𝒱₀ (tV d L) none) Set.univ
              (enqueueIndirectScatter hp (rowM.slice (Rect.unit (s := S512x128) ![o, 0] S128x128.size inb1) h1)
                  (tnxtM.slice (Rect.unit (s := S131072x128) ![0, 0] S131072x128.size inb3) h3) hg
                  ((idxM.slice (Rect.unit (s := S4x128) ![i, 0] S1x128.size inb2) h2).squeeze S128 hq) hn cc0_scratch7.sem he hsp hr
                >>= fun _ => waitIndirectScatter cc0_scratch7.sem (rowM.slice (Rect.unit (s := S512x128) ![o, 0] S128x128.size inb1) h1)
                  (tnxtM.slice (Rect.unit (s := S131072x128) ![0, 0] S131072x128.size inb3) h3) hsrc hdst >>= k) Q) := by
  have hw := wid_lt L
  iintro ⟨H0, Hto, H3, Hsem, HO, Hmw⟩ Hk
  iapply (wp_ringPair (F := F) (q := fullShare) (qo := fullShare) (fs := stage 512 16384 (512 * wid L) hb C.sN)
    (Sd := piece 131072 C.p.toNat 512 (wid L)) (fd := ringWrite 131072 16384 C.p.toNat (512 * wid L) (512 * wid L + o) C.sN C.oN)
    (fo := wordAt 4 C.p (512 * wid L) 131071#32) (O := O) (W := W) countersEmb 𝒱₀ (tV d L) none (default : HIx 1)
    C.p.toNat (512 * wid L) (512 * wid L + o) (by omega) (by omega) (by omega)
    C.sN C.oN ?hwd ?hS ?hfd ?hSd (fun _ => rfl) (fun _ => rfl) (ringWrite 131072 16384 C.p.toNat (512 * wid L) (512 * wid L + (o + 128)) C.sN C.oN) ?hfd' ?hall) $$ [H0 Hto H3 Hsem HO Hmw]
  rotate_right 2
  · isplitl [H0]; · iexact H0
    isplitl [Hto]; · iexact Hto
    isplitl [H3]; · iexact H3
    isplitl [Hsem]; · iexact Hsem
    isplitl [HO]; · iexact HO
    iexact Hmw
  · iintro ⟨H0, Hto, H3, Hsem, HO⟩
    iapply Hk
    isplitl [H0]; · iexact H0
    isplitl [Hto]; · iexact Hto
    isplitl [H3]; · iexact H3
    isplitl [Hsem]; · iexact Hsem
    iexact HO
  · intro l
    refine (congrArg BitVec.toNat (idx_read (F := F) C.p 131071#32 (512 * wid L) i inb2 h2 hq l)).trans ?_
    rw [word_toNat _ _ 17 (by omega) _ (by decide)]
    subst ho
    rw [← Nat.add_assoc, ← Nat.add_assoc]
    simp only [Nat.reducePow]
  · intro k y
    exact row_read (F := F) hb C.sN inb1 h1 k y _
  · exact tnxt_read inb3 h3 _
  · intro x hx1 hx2
    refine (congrArg (· ∈ _) (tnxt_emb inb3 h3 x)).mpr ?_
    exact (mem_piece (by omega)).mpr ⟨by omega, by omega⟩
  · exact tnxt_read inb3 h3 _
  · exact fun x => ⟨x, tnxt_emb inb3 h3 x⟩

set_option maxHeartbeats 8000000 in
/-- One scatter into the target `tact`. -/
theorem wp_tact (C : Con F) (d : Dev nD) (L : grid0.Coords) {α : Type} {Q : α → sProp 𝕄} {o i : ℕ} (ho : o = 128 * i) (hi : i < 1)
    {inb1 : ∀ a, (![o, 0] : Fin 2 → ℕ) a + S128x128.size a ≤ S128x128.size a} {h1}
    {inb2 : ∀ a, (![i, 0] : Fin 2 → ℕ) a + S1x128.size a ≤ S1x128.size a} {h2 hq}
    {inb3 : ∀ a, (![0, 0] : Fin 2 → ℕ) a + S32768x128.size a ≤ S32768x128.size a} {h3}
    {hg : S32768x128.Gathers 0 S128x128} {hn : S128.numel = S128x128.size hg.axis'} {hp} {he} {hsp} {hr} {hsrc} {hdst}
    {k : PUnit → Prog (TpuEff nD τ sig (Elt F) Λ₀ (tV d L).2) α}
    (O : CellTallies nD τ sig (HIx 1)) (W : Waits sig (HIx 1)) (hb : 128 * wid L + 128 ≤ 4096) :
    iprop((arwM.view.loc (tV d L) ↦{fullShare} stage 128 4096 (128 * wid L) hb C.sA)
        ∗ (tactLoc d ↦[piece 32768 (C.p.toNat / 4) 128 (wid L)]{fullShare} (ringWrite 32768 4096 (C.p.toNat / 4) (128 * wid L) (128 * wid L + o) C.sA C.oA : Buf (Elt F) (tactLoc d)))
        ∗ (idaM.view.loc (tV d L) ↦{fullShare} wordAt 1 (C.p >>> 2) (128 * wid L) 32767#32)
        ∗ semVal (tV d L, SemLoc.dma cc0_scratch7.sem) 0 ∗ owes (tV d L) O W ∗ MayWait (tV d L) (.dma cc0_scratch7.sem) (default : HIx 1) O)
      ⊢ iprop((iprop((arwM.view.loc (tV d L) ↦{fullShare} stage 128 4096 (128 * wid L) hb C.sA)
                ∗ (tactLoc d ↦[piece 32768 (C.p.toNat / 4) 128 (wid L)]{fullShare} (ringWrite 32768 4096 (C.p.toNat / 4) (128 * wid L) (128 * wid L + (o + 128)) C.sA C.oA : Buf (Elt F) (tactLoc d)))
                ∗ (idaM.view.loc (tV d L) ↦{fullShare} wordAt 1 (C.p >>> 2) (128 * wid L) 32767#32)
                ∗ semVal (tV d L, SemLoc.dma cc0_scratch7.sem) 0 ∗ owes (tV d L) O (insert (SemLoc.dma cc0_scratch7.sem, (default : HIx 1)) W))
              -∗ wp frame (wpE (defs₀ (F := F)) 𝒱₀ (tV d L) none) Set.univ (k ⟨⟩) Q)
          -∗ wp frame (wpE (defs₀ (F := F)) 𝒱₀ (tV d L) none) Set.univ
              (enqueueIndirectScatter hp (arwM.slice (Rect.unit (s := S128x128) ![o, 0] S128x128.size inb1) h1)
                  (tactM.slice (Rect.unit (s := S32768x128) ![0, 0] S32768x128.size inb3) h3) hg
                  ((idaM.slice (Rect.unit (s := S1x128) ![i, 0] S1x128.size inb2) h2).squeeze S128 hq) hn cc0_scratch7.sem he hsp hr
                >>= fun _ => waitIndirectScatter cc0_scratch7.sem (arwM.slice (Rect.unit (s := S128x128) ![o, 0] S128x128.size inb1) h1)
                  (tactM.slice (Rect.unit (s := S32768x128) ![0, 0] S32768x128.size inb3) h3) hsrc hdst >>= k) Q) := by
  have hw := wid_lt L
  iintro ⟨H0, Hto, H3, Hsem, HO, Hmw⟩ Hk
  iapply (wp_ringPair (F := F) (q := fullShare) (qo := fullShare) (fs := stage 128 4096 (128 * wid L) hb C.sA)
    (Sd := piece 32768 (C.p.toNat / 4) 128 (wid L)) (fd := ringWrite 32768 4096 (C.p.toNat / 4) (128 * wid L) (128 * wid L + o) C.sA C.oA)
    (fo := wordAt 1 (C.p >>> 2) (128 * wid L) 32767#32) (O := O) (W := W) countersEmb 𝒱₀ (tV d L) none (default : HIx 1)
    (C.p.toNat / 4) (128 * wid L) (128 * wid L + o) (by omega) (by omega) (by omega)
    C.sA C.oA ?hwd ?hS ?hfd ?hSd (fun _ => rfl) (fun _ => rfl) (ringWrite 32768 4096 (C.p.toNat / 4) (128 * wid L) (128 * wid L + (o + 128)) C.sA C.oA) ?hfd' ?hall) $$ [H0 Hto H3 Hsem HO Hmw]
  rotate_right 2
  · isplitl [H0]; · iexact H0
    isplitl [Hto]; · iexact Hto
    isplitl [H3]; · iexact H3
    isplitl [Hsem]; · iexact Hsem
    isplitl [HO]; · iexact HO
    iexact Hmw
  · iintro ⟨H0, Hto, H3, Hsem, HO⟩
    iapply Hk
    isplitl [H0]; · iexact H0
    isplitl [Hto]; · iexact Hto
    isplitl [H3]; · iexact H3
    isplitl [Hsem]; · iexact Hsem
    iexact HO
  · intro l
    refine (congrArg BitVec.toNat (ida_read (F := F) (C.p >>> 2) 32767#32 (128 * wid L) i inb2 h2 hq l)).trans ?_
    rw [word_toNat _ _ 15 (by omega) _ (by decide), shift2_toNat]
    subst ho
    rw [← Nat.add_assoc, ← Nat.add_assoc]
    simp only [Nat.reducePow]
  · intro k y
    exact arw_read (F := F) hb C.sA inb1 h1 k y _
  · exact tact_read inb3 h3 _
  · intro x hx1 hx2
    refine (congrArg (· ∈ _) (tact_emb inb3 h3 x)).mpr ?_
    exact (mem_piece (by omega)).mpr ⟨by omega, by omega⟩
  · exact tact_read inb3 h3 _
  · exact fun x => ⟨x, tact_emb inb3 h3 x⟩

set_option maxHeartbeats 8000000 in
/-- One scatter into the target `tpck`. -/
theorem wp_tpck (C : Con F) (d : Dev nD) (L : grid0.Coords) {α : Type} {Q : α → sProp 𝕄} {o i : ℕ} (ho : o = 128 * i) (hi : i < 1) (h8 : wid L % 8 = 0)
    {inb1 : ∀ a, (![o, 0] : Fin 2 → ℕ) a + S128x128.size a ≤ S128x128.size a} {h1}
    {inb2 : ∀ a, (![i, 0] : Fin 2 → ℕ) a + S1x128.size a ≤ S1x128.size a} {h2 hq}
    {inb3 : ∀ a, (![0, 0] : Fin 2 → ℕ) a + S4096x128.size a ≤ S4096x128.size a} {h3}
    {hg : S4096x128.Gathers 0 S128x128} {hn : S128.numel = S128x128.size hg.axis'} {hp} {he} {hsp} {hr} {hsrc} {hdst}
    {k : PUnit → Prog (TpuEff nD τ sig (Elt F) Λ₀ (tV d L).2) α}
    (O : CellTallies nD τ sig (HIx 1)) (W : Waits sig (HIx 1)) (hb : 128 * (wid L / 8) + 128 ≤ 512) :
    iprop((prwM.view.loc (tV d L) ↦{fullShare} stage 128 512 (128 * (wid L / 8)) hb C.sP)
        ∗ (tpckLoc d ↦[pieceP (C.p.toNat / 32) (wid L)]{fullShare} (ringWrite 4096 512 (C.p.toNat / 32) (128 * (wid L / 8)) (128 * (wid L / 8) + o) C.sP C.oP : Buf (Elt F) (tpckLoc d)))
        ∗ (idpM.view.loc (tV d L) ↦{fullShare} wordAt 1 (C.p >>> 5) (128 * (wid L / 8)) 4095#32)
        ∗ semVal (tV d L, SemLoc.dma cc0_scratch7.sem) 0 ∗ owes (tV d L) O W ∗ MayWait (tV d L) (.dma cc0_scratch7.sem) (default : HIx 1) O)
      ⊢ iprop((iprop((prwM.view.loc (tV d L) ↦{fullShare} stage 128 512 (128 * (wid L / 8)) hb C.sP)
                ∗ (tpckLoc d ↦[pieceP (C.p.toNat / 32) (wid L)]{fullShare} (ringWrite 4096 512 (C.p.toNat / 32) (128 * (wid L / 8)) (128 * (wid L / 8) + (o + 128)) C.sP C.oP : Buf (Elt F) (tpckLoc d)))
                ∗ (idpM.view.loc (tV d L) ↦{fullShare} wordAt 1 (C.p >>> 5) (128 * (wid L / 8)) 4095#32)
                ∗ semVal (tV d L, SemLoc.dma cc0_scratch7.sem) 0 ∗ owes (tV d L) O (insert (SemLoc.dma cc0_scratch7.sem, (default : HIx 1)) W))
              -∗ wp frame (wpE (defs₀ (F := F)) 𝒱₀ (tV d L) none) Set.univ (k ⟨⟩) Q)
          -∗ wp frame (wpE (defs₀ (F := F)) 𝒱₀ (tV d L) none) Set.univ
              (enqueueIndirectScatter hp (prwM.slice (Rect.unit (s := S128x128) ![o, 0] S128x128.size inb1) h1)
                  (tpckM.slice (Rect.unit (s := S4096x128) ![0, 0] S4096x128.size inb3) h3) hg
                  ((idpM.slice (Rect.unit (s := S1x128) ![i, 0] S1x128.size inb2) h2).squeeze S128 hq) hn cc0_scratch7.sem he hsp hr
                >>= fun _ => waitIndirectScatter cc0_scratch7.sem (prwM.slice (Rect.unit (s := S128x128) ![o, 0] S128x128.size inb1) h1)
                  (tpckM.slice (Rect.unit (s := S4096x128) ![0, 0] S4096x128.size inb3) h3) hsrc hdst >>= k) Q) := by
  have hw := wid_lt L
  iintro ⟨H0, Hto, H3, Hsem, HO, Hmw⟩ Hk
  iapply (wp_ringPair (F := F) (q := fullShare) (qo := fullShare) (fs := stage 128 512 (128 * (wid L / 8)) hb C.sP)
    (Sd := pieceP (C.p.toNat / 32) (wid L)) (fd := ringWrite 4096 512 (C.p.toNat / 32) (128 * (wid L / 8)) (128 * (wid L / 8) + o) C.sP C.oP)
    (fo := wordAt 1 (C.p >>> 5) (128 * (wid L / 8)) 4095#32) (O := O) (W := W) countersEmb 𝒱₀ (tV d L) none (default : HIx 1)
    (C.p.toNat / 32) (128 * (wid L / 8)) (128 * (wid L / 8) + o) (by omega) (by omega) (by omega)
    C.sP C.oP ?hwd ?hS ?hfd ?hSd (fun _ => rfl) (fun _ => rfl) (ringWrite 4096 512 (C.p.toNat / 32) (128 * (wid L / 8)) (128 * (wid L / 8) + (o + 128)) C.sP C.oP) ?hfd' ?hall) $$ [H0 Hto H3 Hsem HO Hmw]
  rotate_right 2
  · isplitl [H0]; · iexact H0
    isplitl [Hto]; · iexact Hto
    isplitl [H3]; · iexact H3
    isplitl [Hsem]; · iexact Hsem
    isplitl [HO]; · iexact HO
    iexact Hmw
  · iintro ⟨H0, Hto, H3, Hsem, HO⟩
    iapply Hk
    isplitl [H0]; · iexact H0
    isplitl [Hto]; · iexact Hto
    isplitl [H3]; · iexact H3
    isplitl [Hsem]; · iexact Hsem
    iexact HO
  · intro l
    refine (congrArg BitVec.toNat (idp_read (F := F) (C.p >>> 5) 4095#32 (128 * (wid L / 8)) i inb2 h2 hq l)).trans ?_
    rw [word_toNat _ _ 12 (by omega) _ (by decide), shift5_toNat]
    subst ho
    rw [← Nat.add_assoc, ← Nat.add_assoc]
    simp only [Nat.reducePow]
  · intro k y
    exact prw_read (F := F) hb C.sP inb1 h1 k y _
  · exact tpck_read inb3 h3 _
  · intro x hx1 hx2
    refine (congrArg (· ∈ _) (tpck_emb inb3 h3 x)).mpr ?_
    exact mem_pieceP.mpr (by omega)
  · exact tpck_read inb3 h3 _
  · exact fun x => ⟨x, tpck_emb inb3 h3 x⟩
end

end Cert.Proof.Step

end
-- ==== Proof.Tile.lean ====
module

public import proofs.«01_k».proof.Proof.Step

@[expose] public section

noncomputable section

namespace Cert.Proof.Tile

open Cert.Kernel Cert.Kernel.Gen Cert.Proof.Ring Cert.Proof.Setup Cert.Proof.Pair Cert.Proof.Words Cert.Proof.Step

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

set_option maxHeartbeats 40000000 in
/-- The body of the kernel, run once by one tile, at a symbolic place in the mesh. The tile starts with a read share of
    the five operands and its own rows of the four targets at their old contents; it ends with the same shares and its
    rows holding the new rows where the position puts them. -/
theorem tile_body (C : Con F) (d : Dev nD) (L : grid0.Coords) (q : PosShare TreeShare) (hF : (K (F := F)).Facts)
    (O : CellTallies nD τ sig (HIx 1)) (W : Waits sig (HIx 1)) (hO : ∀ g, O g none = 0) :
    iprop(levAts (K (F := F)).L (K (F := F)).lev ∗ emp
        ∗ tileRes C d (wid L) q C.oO C.oN C.oA C.oP
        ∗ scopedBufs (tV d L) ∗ scopedSems0 (tV d L) ∗ owes (tV d L) O W)
      ⊢ wp frame (wpE (defs₀ (F := F)) 𝒱₀ (tV d L) none) Set.univ
          (cc0__sc_scatter_kernel L obsM (Memref.isWhole_whole _) nxtM (Memref.isWhole_whole _) actM (Memref.isWhole_whole _)
            pckM (Memref.isWhole_whole _) posM (Memref.isWhole_whole _)
            tobsM (Memref.isWhole_whole _) tnxtM (Memref.isWhole_whole _) tactM (Memref.isWhole_whole _) tpckM (Memref.isWhole_whole _)
            tobsM (Memref.isWhole_whole _) tnxtM (Memref.isWhole_whole _) tactM (Memref.isWhole_whole _) tpckM (Memref.isWhole_whole _)
            rowM (Memref.isWhole_whole _) arwM (Memref.isWhole_whole _) prwM (Memref.isWhole_whole _)
            idxM (Memref.isWhole_whole _) idaM (Memref.isWhole_whole _) idpM (Memref.isWhole_whole _) pvM (Memref.isWhole_whole _)
            cc0_scratch7 cc0_scoped0 cc0_scoped1 cc0_scoped2 cc0_scoped3 cc0_scoped4)
          fun _ => iprop(tileRes C d (wid L) q C.rO C.rN C.rA C.rP
            ∗ scopedBufs (tV d L) ∗ scopedSems0 (tV d L)
            ∗ ∃ W', ⌜∀ p ∈ W', p ∈ W ∨ p.2 = none⌝ ∗ owes (tV d L) O W') := by
  simp only [cc0__sc_scatter_kernel_eq_skeleton]; unfold cc0__sc_scatter_kernel_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton]
  rw [(K (F := F)).scopedBufs_V hF d (cV L) (jV L), SparseCore.Cfg.scopedSems0_V (Val := Elt F) d (cV L) (jV L), ownSems0_V, ownBufs_V]
  unfold tileRes
  iintro ⟨#Hlv, -, ⟨⟨Hso, Hsn, Hsa, Hsp, Hpos⟩, Hto, Htn, Hta, Htp⟩,
    ⟨⟨⟨%f0, H0⟩, ⟨%f1, H1⟩, ⟨%f2, H2⟩, ⟨%f3, H3⟩, ⟨%f4, H4⟩, ⟨%f5, H5⟩, ⟨%f6, H6⟩⟩, Hbufs⟩,
    ⟨⟨Hsem, Hr0, Hr1, Hr2, Hr3, Hr4⟩, Hsems⟩, HO⟩
  ihave Hmw := (show levAts (K (F := F)).L (K (F := F)).lev ⊢ Transfers.MayWaits (tV d L) (default : HIx 1) O from
    (K (F := F)).mayWaits_none (thr := tV d L) hO) $$ Hlv
  ihave Hso := (Entails.of_eq (show (obsLoc d ↦{q} (C.sO : Buf (Elt F) (obsLoc d)) : sProp 𝕄)
    = (obsM.view.loc (tV d L) ↦{q} (C.sO : Buf (Elt F) (obsLoc d))) from rfl)) $$ Hso
  ihave Hsn := (Entails.of_eq (show (nxtLoc d ↦{q} (C.sN : Buf (Elt F) (nxtLoc d)) : sProp 𝕄)
    = (nxtM.view.loc (tV d L) ↦{q} (C.sN : Buf (Elt F) (nxtLoc d))) from rfl)) $$ Hsn
  ihave Hsa := (Entails.of_eq (show (actLoc d ↦{q} (C.sA : Buf (Elt F) (actLoc d)) : sProp 𝕄)
    = (actM.view.loc (tV d L) ↦{q} (C.sA : Buf (Elt F) (actLoc d))) from rfl)) $$ Hsa
  ihave Hsp := (Entails.of_eq (show (pckLoc d ↦{q} (C.sP : Buf (Elt F) (pckLoc d)) : sProp 𝕄)
    = (pckM.view.loc (tV d L) ↦{q} (C.sP : Buf (Elt F) (pckLoc d))) from rfl)) $$ Hsp
  ihave Hpos := (Entails.of_eq (show (posLoc d ↦{q} ((fun _ => C.p) : Buf (Elt F) (posLoc d)) : sProp 𝕄)
    = (posM.view.loc (tV d L) ↦{q} ((fun _ => C.p) : Buf (Elt F) (posLoc d))) from rfl)) $$ Hpos
  ihave H0 := (Entails.of_eq (show ((tV d L).loc cc0_scratch0 ↦{fullShare} f0 : sProp 𝕄) = (rowM.view.loc (tV d L) ↦{fullShare} f0) from rfl)) $$ H0
  ihave H1 := (Entails.of_eq (show ((tV d L).loc cc0_scratch1 ↦{fullShare} f1 : sProp 𝕄) = (arwM.view.loc (tV d L) ↦{fullShare} f1) from rfl)) $$ H1
  ihave H2 := (Entails.of_eq (show ((tV d L).loc cc0_scratch2 ↦{fullShare} f2 : sProp 𝕄) = (prwM.view.loc (tV d L) ↦{fullShare} f2) from rfl)) $$ H2
  ihave H3 := (Entails.of_eq (show ((tV d L).loc cc0_scratch3 ↦{fullShare} f3 : sProp 𝕄) = (idxM.view.loc (tV d L) ↦{fullShare} f3) from rfl)) $$ H3
  ihave H4 := (Entails.of_eq (show ((tV d L).loc cc0_scratch4 ↦{fullShare} f4 : sProp 𝕄) = (idaM.view.loc (tV d L) ↦{fullShare} f4) from rfl)) $$ H4
  ihave H5 := (Entails.of_eq (show ((tV d L).loc cc0_scratch5 ↦{fullShare} f5 : sProp 𝕄) = (idpM.view.loc (tV d L) ↦{fullShare} f5) from rfl)) $$ H5
  ihave H6 := (Entails.of_eq (show ((tV d L).loc cc0_scratch6 ↦{fullShare} f6 : sProp 𝕄) = (pvM.view.loc (tV d L) ↦{fullShare} f6) from rfl)) $$ H6
  sl_exec
  have hd : View.write (Elt F) pvM.view f6 (tile_body.sl.dma0 C d) Finset.univ = fun _ => C.p :=
    (View.write_whole_univ _ _ _).trans rfl
  have hv3 : View.readAt (Elt F) pvM.view (Rect.unit ![0] S16.size inb_S16_S16_0).toLoadRect
      (View.write (Elt F) pvM.view f6 (tile_body.sl.dma0 C d) Finset.univ) = fun _ => C.p := by rw [hd]; rfl
  have hr : tile_body.sl.r C d L f6 = fun _ => C.p := (congrArg k0_pay1 hv3).trans rfl
  have h1 : tile_body.sl.v1 L = widW L := rfl
  have h2 : tile_body.sl.v2 L = BitVec.ofNat 32 (512 * wid L) := widW_eq L
  have h5 : tile_body.sl.v5 = iota .scVector S16 32 [0] iota_S16_d0_w32_scVector := rfl
  rw [idx_writes (F := F) f3 _ (wordAt 4 C.p (512 * wid L) 131071#32) ?hg3 ?ht3]
  case ht3 => rfl
  case hg3 =>
    rw [hv3, hr, h5]
    simp only [List.forall_mem_cons]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun _ h => nomatch h⟩
    all_goals refine lane_word ?_ x
    all_goals first | exact addc h2 (by omega) | exact addc (widW_eq L) (by omega)
  have hr1 : tile_body.sl.r_1 C d L f6 = fun _ => C.p >>> 2 := (congrArg k0_pay34 hr).trans (shift2 C.p)
  have hr2 : tile_body.sl.r_2 C d L f6 = k0_pay37 (widW L) (tile_body.sl.r C d L f6) tile_body.sl.v5 := rfl
  have hr3 : tile_body.sl.r_3 C d L f6 = fun _ => C.p >>> 5 := (congrArg k0_pay44 hr).trans (shift5 C.p)
  have hr4 : tile_body.sl.r_4 C d L f6 = k0_pay52 (widW L) tile_body.sl.v5 (tile_body.sl.r_3 C d L f6) := rfl
  rw [ida_writes (F := F) f4 _ (wordAt 1 (C.p >>> 2) (128 * wid L) 32767#32) ?hg4 ?ht4]
  case ht4 => rfl
  case hg4 =>
    rw [hr1, hr2, hr, h5, h1]
    simp only [List.forall_mem_cons]
    refine ⟨fun x => ?_, fun x => ?_, fun x => ?_, fun x => ?_, fun x => ?_, fun x => ?_, fun x => ?_, fun x => ?_, fun _ h => nomatch h⟩
    all_goals refine lane_word ?_ x
    all_goals exact addc (widW_eq' L) (by omega)
  rw [idp_writes (F := F) f5 _ (wordAt 1 (C.p >>> 5) (128 * (wid L / 8)) 4095#32) ?hg5 ?ht5]
  case ht5 => rfl
  case hg5 =>
    rw [hr4, hr3, h5, h1]
    simp only [List.forall_mem_cons]
    refine ⟨fun x => ?_, fun x => ?_, fun x => ?_, fun x => ?_, fun x => ?_, fun x => ?_, fun x => ?_, fun x => ?_, fun _ h => nomatch h⟩
    all_goals refine lane_word ?_ x
    all_goals exact addc (group_eq L) (by omega)
  have hw := wid_lt L
  have hd0 : View.write (Elt F) rowM.view f0 (tile_body.sl.dma97 C L) Finset.univ = stage 512 16384 (512 * wid L) (by omega) C.sO :=
    (View.write_whole_univ _ _ _).trans (obs_read (off1_eq L) _ _ _ _)
  rw [hd0]
  have hob : 512 * wid L + 512 ≤ 16384 := by omega
  ihave Hto := (Entails.of_eq (show (tobsLoc d ↦[piece 131072 C.p.toNat 512 (wid L)]{fullShare} (C.oO : Buf (Elt F) (tobsLoc d)) : sProp 𝕄)
    = (tobsLoc d ↦[piece 131072 C.p.toNat 512 (wid L)]{fullShare} (ringWrite 131072 16384 C.p.toNat (512 * wid L) (512 * wid L + 0) C.sO C.oO : Buf (Elt F) (tobsLoc d)))
    by rw [Nat.add_zero, ringWrite_self])) $$ Hto
  iapply (wp_tobs C d L (o := 0) (i := 0) rfl (by omega) O _ hob) $$ [H0 Hto H3 Hsem HO]
  · isplitl [H0]; · iexact H0
    isplitl [Hto]; · iexact Hto
    isplitl [H3]; · iexact H3
    isplitl [Hsem]; · iexact Hsem
    isplitl [HO]; · iexact HO
    iapply (Transfers.MayWaits.elim (SemLoc.dma cc0_scratch7.sem)) $$ Hmw
  iintro ⟨H0, Hto, H3, Hsem, HO⟩
  sl_exec
  iapply (wp_tobs C d L (o := 128) (i := 1) rfl (by omega) O _ hob) $$ [H0 Hto H3 Hsem HO]
  · isplitl [H0]; · iexact H0
    isplitl [Hto]; · iexact Hto
    isplitl [H3]; · iexact H3
    isplitl [Hsem]; · iexact Hsem
    isplitl [HO]; · iexact HO
    iapply (Transfers.MayWaits.elim (SemLoc.dma cc0_scratch7.sem)) $$ Hmw
  iintro ⟨H0, Hto, H3, Hsem, HO⟩
  sl_exec
  iapply (wp_tobs C d L (o := 256) (i := 2) rfl (by omega) O _ hob) $$ [H0 Hto H3 Hsem HO]
  · isplitl [H0]; · iexact H0
    isplitl [Hto]; · iexact Hto
    isplitl [H3]; · iexact H3
    isplitl [Hsem]; · iexact Hsem
    isplitl [HO]; · iexact HO
    iapply (Transfers.MayWaits.elim (SemLoc.dma cc0_scratch7.sem)) $$ Hmw
  iintro ⟨H0, Hto, H3, Hsem, HO⟩
  sl_exec
  iapply (wp_tobs C d L (o := 384) (i := 3) rfl (by omega) O _ hob) $$ [H0 Hto H3 Hsem HO]
  · isplitl [H0]; · iexact H0
    isplitl [Hto]; · iexact Hto
    isplitl [H3]; · iexact H3
    isplitl [Hsem]; · iexact Hsem
    isplitl [HO]; · iexact HO
    iapply (Transfers.MayWaits.elim (SemLoc.dma cc0_scratch7.sem)) $$ Hmw
  iintro ⟨H0, Hto, H3, Hsem, HO⟩
  sl_exec
  ihave H0 := (Entails.of_eq (congrArg (fun g => (rowM.view.loc (tV d L) ↦{fullShare} g : sProp 𝕄))
    ((View.write_whole_univ _ _ _).trans (nxt_read (F := F) (off1_eq L) hob C.sN _ _)))) $$ H0
  ihave Htn := (Entails.of_eq (show (tnxtLoc d ↦[piece 131072 C.p.toNat 512 (wid L)]{fullShare} (C.oN : Buf (Elt F) (tnxtLoc d)) : sProp 𝕄)
    = (tnxtLoc d ↦[piece 131072 C.p.toNat 512 (wid L)]{fullShare} (ringWrite 131072 16384 C.p.toNat (512 * wid L) (512 * wid L + 0) C.sN C.oN : Buf (Elt F) (tnxtLoc d)))
    by rw [Nat.add_zero, ringWrite_self])) $$ Htn
  iapply (wp_tnxt C d L (o := 0) (i := 0) rfl (by omega) O _ hob) $$ [H0 Htn H3 Hsem HO]
  · isplitl [H0]; · iexact H0
    isplitl [Htn]; · iexact Htn
    isplitl [H3]; · iexact H3
    isplitl [Hsem]; · iexact Hsem
    isplitl [HO]; · iexact HO
    iapply (Transfers.MayWaits.elim (SemLoc.dma cc0_scratch7.sem)) $$ Hmw
  iintro ⟨H0, Htn, H3, Hsem, HO⟩
  sl_exec
  iapply (wp_tnxt C d L (o := 128) (i := 1) rfl (by omega) O _ hob) $$ [H0 Htn H3 Hsem HO]
  · isplitl [H0]; · iexact H0
    isplitl [Htn]; · iexact Htn
    isplitl [H3]; · iexact H3
    isplitl [Hsem]; · iexact Hsem
    isplitl [HO]; · iexact HO
    iapply (Transfers.MayWaits.elim (SemLoc.dma cc0_scratch7.sem)) $$ Hmw
  iintro ⟨H0, Htn, H3, Hsem, HO⟩
  sl_exec
  iapply (wp_tnxt C d L (o := 256) (i := 2) rfl (by omega) O _ hob) $$ [H0 Htn H3 Hsem HO]
  · isplitl [H0]; · iexact H0
    isplitl [Htn]; · iexact Htn
    isplitl [H3]; · iexact H3
    isplitl [Hsem]; · iexact Hsem
    isplitl [HO]; · iexact HO
    iapply (Transfers.MayWaits.elim (SemLoc.dma cc0_scratch7.sem)) $$ Hmw
  iintro ⟨H0, Htn, H3, Hsem, HO⟩
  sl_exec
  iapply (wp_tnxt C d L (o := 384) (i := 3) rfl (by omega) O _ hob) $$ [H0 Htn H3 Hsem HO]
  · isplitl [H0]; · iexact H0
    isplitl [Htn]; · iexact Htn
    isplitl [H3]; · iexact H3
    isplitl [Hsem]; · iexact Hsem
    isplitl [HO]; · iexact HO
    iapply (Transfers.MayWaits.elim (SemLoc.dma cc0_scratch7.sem)) $$ Hmw
  iintro ⟨H0, Htn, H3, Hsem, HO⟩
  sl_exec
  have hoa : 128 * wid L + 128 ≤ 4096 := by omega
  ihave H1 := (Entails.of_eq (congrArg (fun g => (arwM.view.loc (tV d L) ↦{fullShare} g : sProp 𝕄))
    ((View.write_whole_univ _ _ _).trans (act_read (F := F) (off2_eq L) hoa C.sA _ _)))) $$ H1
  ihave Hta := (Entails.of_eq (show (tactLoc d ↦[piece 32768 (C.p.toNat / 4) 128 (wid L)]{fullShare} (C.oA : Buf (Elt F) (tactLoc d)) : sProp 𝕄)
    = (tactLoc d ↦[piece 32768 (C.p.toNat / 4) 128 (wid L)]{fullShare} (ringWrite 32768 4096 (C.p.toNat / 4) (128 * wid L) (128 * wid L + 0) C.sA C.oA : Buf (Elt F) (tactLoc d)))
    by rw [Nat.add_zero, ringWrite_self])) $$ Hta
  iapply (wp_tact C d L (o := 0) (i := 0) rfl (by omega) O _ hoa) $$ [H1 Hta H4 Hsem HO]
  · isplitl [H1]; · iexact H1
    isplitl [Hta]; · iexact Hta
    isplitl [H4]; · iexact H4
    isplitl [Hsem]; · iexact Hsem
    isplitl [HO]; · iexact HO
    iapply (Transfers.MayWaits.elim (SemLoc.dma cc0_scratch7.sem)) $$ Hmw
  iintro ⟨H1, Hta, H4, Hsem, HO⟩
  sl_exec
  ihave Hto := (Entails.of_eq (show (tobsLoc d ↦[piece 131072 C.p.toNat 512 (wid L)]{fullShare} (ringWrite 131072 16384 C.p.toNat (512 * wid L) (512 * wid L + (384 + 128)) C.sO C.oO : Buf (Elt F) (tobsLoc d)) : sProp 𝕄)
      = (tobsLoc d ↦[piece 131072 C.p.toNat 512 (wid L)]{fullShare} (C.rO : Buf (Elt F) (tobsLoc d)))
    from pointsTo_congr fun x hx => ringWrite_eq_all C.sO C.oO ((mem_piece (by omega)).mp hx))) $$ Hto
  ihave Htn := (Entails.of_eq (show (tnxtLoc d ↦[piece 131072 C.p.toNat 512 (wid L)]{fullShare} (ringWrite 131072 16384 C.p.toNat (512 * wid L) (512 * wid L + (384 + 128)) C.sN C.oN : Buf (Elt F) (tnxtLoc d)) : sProp 𝕄)
      = (tnxtLoc d ↦[piece 131072 C.p.toNat 512 (wid L)]{fullShare} (C.rN : Buf (Elt F) (tnxtLoc d)))
    from pointsTo_congr fun x hx => ringWrite_eq_all C.sN C.oN ((mem_piece (by omega)).mp hx))) $$ Htn
  ihave Hta := (Entails.of_eq (show (tactLoc d ↦[piece 32768 (C.p.toNat / 4) 128 (wid L)]{fullShare} (ringWrite 32768 4096 (C.p.toNat / 4) (128 * wid L) (128 * wid L + (0 + 128)) C.sA C.oA : Buf (Elt F) (tactLoc d)) : sProp 𝕄)
      = (tactLoc d ↦[piece 32768 (C.p.toNat / 4) 128 (wid L)]{fullShare} (C.rA : Buf (Elt F) (tactLoc d)))
    from pointsTo_congr fun x hx => ringWrite_eq_all C.sA C.oA ((mem_piece (by omega)).mp hx))) $$ Hta
  by_cases hc : k0_cond1 L = 1#1
  · rw [dif_pos hc]
    have h8 : wid L % 8 = 0 := (cond1_iff L).mp hc
    have hop : 128 * (wid L / 8) + 128 ≤ 512 := by omega
    sl_exec
    ihave H2 := (Entails.of_eq (congrArg (fun g => (prwM.view.loc (tV d L) ↦{fullShare} g : sProp 𝕄))
      ((View.write_whole_univ _ _ _).trans (pck_read (F := F) (off3_eq L hc) hop C.sP _ _)))) $$ H2
    ihave Htp := (Entails.of_eq (show (tpckLoc d ↦[pieceP (C.p.toNat / 32) (wid L)]{fullShare} (C.oP : Buf (Elt F) (tpckLoc d)) : sProp 𝕄)
      = (tpckLoc d ↦[pieceP (C.p.toNat / 32) (wid L)]{fullShare} (ringWrite 4096 512 (C.p.toNat / 32) (128 * (wid L / 8)) (128 * (wid L / 8) + 0) C.sP C.oP : Buf (Elt F) (tpckLoc d)))
      by rw [Nat.add_zero, ringWrite_self])) $$ Htp
    iapply (wp_tpck C d L (o := 0) (i := 0) rfl (by omega) h8 O _ hop) $$ [H2 Htp H5 Hsem HO]
    · isplitl [H2]; · iexact H2
      isplitl [Htp]; · iexact Htp
      isplitl [H5]; · iexact H5
      isplitl [Hsem]; · iexact Hsem
      isplitl [HO]; · iexact HO
      iapply (Transfers.MayWaits.elim (SemLoc.dma cc0_scratch7.sem)) $$ Hmw
    iintro ⟨H2, Htp, H5, Hsem, HO⟩
    sl_exec
    ihave Htp := (Entails.of_eq (show (tpckLoc d ↦[pieceP (C.p.toNat / 32) (wid L)]{fullShare} (ringWrite 4096 512 (C.p.toNat / 32) (128 * (wid L / 8)) (128 * (wid L / 8) + (0 + 128)) C.sP C.oP : Buf (Elt F) (tpckLoc d)) : sProp 𝕄)
        = (tpckLoc d ↦[pieceP (C.p.toNat / 32) (wid L)]{fullShare} (C.rP : Buf (Elt F) (tpckLoc d)))
      from pointsTo_congr fun x hx => ringWrite_eq_all C.sP C.oP (by have := mem_pieceP.mp hx; omega))) $$ Htp
    sl_step
    isplitl [Hso Hsn Hsa Hsp Hpos Hto Htn Hta Htp]
    · isplitl [Hso Hsn Hsa Hsp Hpos]
      · isplitl [Hso]; · iexact Hso
        isplitl [Hsn]; · iexact Hsn
        isplitl [Hsa]; · iexact Hsa
        isplitl [Hsp]; · iexact Hsp
        iexact Hpos
      · isplitl [Hto]; · iexact Hto
        isplitl [Htn]; · iexact Htn
        isplitl [Hta]; · iexact Hta
        iexact Htp
    isplitl [H0 H1 H2 H3 H4 H5 H6 Hbufs]
    · isplitr [Hbufs]
      · isplitl [H0]; · iexists _; iexact H0
        isplitl [H1]; · iexists _; iexact H1
        isplitl [H2]; · iexists _; iexact H2
        isplitl [H3]; · iexists _; iexact H3
        isplitl [H4]; · iexists _; iexact H4
        isplitl [H5]; · iexists _; iexact H5
        iexists _; iexact H6
      · iexact Hbufs
    isplitl [Hsem Hr0 Hr1 Hr2 Hr3 Hr4 Hsems]
    · isplitr [Hsems]
      · isplitl [Hsem]; · iexact Hsem
        isplitl [Hr0]; · iexact Hr0
        isplitl [Hr1]; · iexact Hr1
        isplitl [Hr2]; · iexact Hr2
        isplitl [Hr3]; · iexact Hr3
        iexact Hr4
      · iexact Hsems
    iexists _
    isplitr
    swap; · iexact HO
    ipureintro; intro p hp
    repeat (rcases Finset.mem_insert.mp hp with hp | hp; · exact .inr (hp ▸ rfl))
    exact .inl hp
  · rw [dif_neg hc]
    have h8 : wid L % 8 ≠ 0 := fun h => hc ((cond1_iff L).mpr h)
    ihave Htp := (Entails.of_eq (show (tpckLoc d ↦[pieceP (C.p.toNat / 32) (wid L)]{fullShare} (C.oP : Buf (Elt F) (tpckLoc d)) : sProp 𝕄)
        = (tpckLoc d ↦[pieceP (C.p.toNat / 32) (wid L)]{fullShare} (C.rP : Buf (Elt F) (tpckLoc d)))
      from pointsTo_congr fun x hx => (by have := mem_pieceP.mp hx; omega))) $$ Htp
    sl_step
    isplitl [Hso Hsn Hsa Hsp Hpos Hto Htn Hta Htp]
    · isplitl [Hso Hsn Hsa Hsp Hpos]
      · isplitl [Hso]; · iexact Hso
        isplitl [Hsn]; · iexact Hsn
        isplitl [Hsa]; · iexact Hsa
        isplitl [Hsp]; · iexact Hsp
        iexact Hpos
      · isplitl [Hto]; · iexact Hto
        isplitl [Htn]; · iexact Htn
        isplitl [Hta]; · iexact Hta
        iexact Htp
    isplitl [H0 H1 H2 H3 H4 H5 H6 Hbufs]
    · isplitr [Hbufs]
      · isplitl [H0]; · iexists _; iexact H0
        isplitl [H1]; · iexists _; iexact H1
        isplitl [H2]; · iexists _; iexact H2
        isplitl [H3]; · iexists _; iexact H3
        isplitl [H4]; · iexists _; iexact H4
        isplitl [H5]; · iexists _; iexact H5
        iexists _; iexact H6
      · iexact Hbufs
    isplitl [Hsem Hr0 Hr1 Hr2 Hr3 Hr4 Hsems]
    · isplitr [Hsems]
      · isplitl [Hsem]; · iexact Hsem
        isplitl [Hr0]; · iexact Hr0
        isplitl [Hr1]; · iexact Hr1
        isplitl [Hr2]; · iexact Hr2
        isplitl [Hr3]; · iexact Hr3
        iexact Hr4
      · iexact Hsems
    iexists _
    isplitr
    swap; · iexact HO
    ipureintro; intro p hp
    repeat (rcases Finset.mem_insert.mp hp with hp | hp; · exact .inr (hp ▸ rfl))
    exact .inl hp

end Cert.Proof.Tile

end
-- ==== Proof.Launch.lean ====
/-
  The launch's pieces: what the call hands each tile and gets back (`P`), a tile's obligation (from `Tile.tile_body`),
  and how the TensorCore's nine whole buffers are cut into the 32 tiles' parts before the call and put together after it
  (`handout`, `gather`).
-/
module

public import proofs.«01_k».proof.Proof.Tile
public import Idealize.SL.BI.BigOpNat

@[expose] public section

noncomputable section

namespace Cert.Proof.Launch

open Cert.Kernel Cert.Kernel.Gen Cert.Proof.Ring Cert.Proof.Setup Cert.Proof.Tile

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

omit [BitOps F] in
theorem eq_of {P Q : sProp 𝕄} (h₁ : P ⊢ Q) (h₂ : Q ⊢ P) : P = Q := BI.Entails.antisymm h₁ h₂

/-! ## Read shares for 32 tiles -/

/-- What is left of the full share once `n` tiles have had theirs: half of it each time. -/
def rest : ℕ → PosShare TreeShare
  | 0 => fullShare
  | n + 1 => (rest n).right

/-- Tile `n`'s share. -/
def cut (n : ℕ) : PosShare TreeShare := (rest n).left

omit [BitOps F] in
/-- A whole buffer is `n` tiles' shares of it and what is left. -/
theorem pts_cut {ℓ : Loc nD τ sig} (f : Buf (Elt F) ℓ) (n : ℕ) :
    (ℓ ↦{fullShare} f : sProp 𝕄) = iprop((bigSep (Finset.range n) fun i => ℓ ↦{cut i} f) ∗ ℓ ↦{rest n} f) := by
  induction n with
  | zero =>
    rw [Finset.range_zero, bigSep_empty]
    exact eq_of (P := ℓ ↦{fullShare} f) (Q := iprop(emp ∗ ℓ ↦{rest 0} f))
      (by iintro H; isplitr; · iempintro
          iexact H)
      (by iintro ⟨-, H⟩; iexact H)
  | succ n ih =>
    rw [ih, bigSep_range_succ]
    have hs : (ℓ ↦{rest n} f : sProp 𝕄) = iprop((ℓ ↦{cut n} f) ∗ ℓ ↦{rest (n + 1)} f) :=
      BI.Entails.antisymm (pointsTo_share (PosShare.mem_left_op_right (rest n))).1 (pointsTo_share (PosShare.mem_left_op_right (rest n))).2
    rw [hs]
    refine eq_of ?_ ?_
    · iintro ⟨H1, H2, H3⟩
      isplitl [H1 H2]
      · isplitl [H2]; · iexact H2
        iexact H1
      iexact H3
    · iintro ⟨⟨H2, H1⟩, H3⟩
      isplitl [H1]; · iexact H1
      isplitl [H2]; · iexact H2
      iexact H3

/-! ## A target's rows by tile -/

/-- The rows that some tile owns. -/
abbrev owned (N p B : ℕ) : Finset (Mat N).Idx := (Finset.range 32).biUnion (piece N p B)
abbrev ownedP (p : ℕ) : Finset (Mat 4096).Idx := (Finset.range 32).biUnion (pieceP p)

omit [BitOps F] in
theorem piece_disjoint (N p B : ℕ) : ∀ a ∈ Finset.range 32, ∀ b ∈ Finset.range 32, a ≠ b → Disjoint (piece N p B a) (piece N p B b) := by
  intro a _ b _ h
  refine Finset.disjoint_left.mpr fun x ha hb => h ?_
  rw [← (Finset.mem_filter.mp ha).2, ← (Finset.mem_filter.mp hb).2]

omit [BitOps F] in
theorem pieceP_disjoint (p : ℕ) : ∀ a ∈ Finset.range 32, ∀ b ∈ Finset.range 32, a ≠ b → Disjoint (pieceP p a) (pieceP p b) := by
  intro a _ b _ h
  refine Finset.disjoint_left.mpr fun x ha hb => h ?_
  rw [← mem_pieceP.mp ha, ← mem_pieceP.mp hb]

omit [BitOps F] in
/-- A row that no tile owns lies past the last new row. -/
theorem not_owned {N p B : ℕ} (hB : 0 < B) {x : (Mat N).Idx} (hx : x ∉ owned N p B) : 32 * B ≤ ahead N p (x 0).val := by
  by_contra hlt
  refine hx (Finset.mem_biUnion.mpr ⟨ahead N p (x 0).val / B, Finset.mem_range.mpr ?_, Finset.mem_filter.mpr ⟨Finset.mem_univ _, rfl⟩⟩)
  exact (Nat.div_lt_iff_lt_mul hB).mpr (by omega)

omit [BitOps F] in
theorem not_ownedP {p : ℕ} {x : (Mat 4096).Idx} (hx : x ∉ ownedP p) : 512 ≤ ahead 4096 p (x 0).val := by
  by_contra hlt
  refine hx (Finset.mem_biUnion.mpr ⟨8 * (ahead 4096 p (x 0).val / 128), Finset.mem_range.mpr ?_, mem_pieceP.mpr rfl⟩)
  omega

omit [BitOps F] in
/-- A whole buffer is the tiles' rows of it and the rows no tile owns. -/
theorem pts_rows {ℓ : Loc nD τ sig} (f : Buf (Elt F) ℓ) (k : ℕ → Finset (Idx ℓ))
    (hk : ∀ a ∈ Finset.range 32, ∀ b ∈ Finset.range 32, a ≠ b → Disjoint (k a) (k b)) :
    (ℓ ↦{fullShare} f : sProp 𝕄)
      = iprop((bigSep (Finset.range 32) fun w => ℓ ↦[k w]{fullShare} f) ∗ ℓ ↦[Finset.univ \ (Finset.range 32).biUnion k]{fullShare} f) := by
  rw [← pointsTo_biUnion (Finset.range 32) k hk]
  exact BI.Entails.antisymm (pointsTo_split_subset (Finset.subset_univ _)).1 (pointsTo_split_subset (Finset.subset_univ _)).2

/-! ## What the call hands the tiles and gets back -/

/-- The tile's place in the mesh, from its SparseCore and its subcore. -/
def coordsV (c : Fin (grid0.bound 0)) (s : Fin (grid0.bound 1)) : grid0.Coords :=
  fun | 0 => c | 1 => s | ⟨_ + 2, h⟩ => absurd h (Nat.not_lt.2 (Nat.le_add_left _ _))

/-- Tile `w` before the call: its share of the operands, its rows at the old contents. -/
abbrev before (C : Con F) (d : Dev nD) (w : ℕ) : sProp 𝕄 := tileRes C d w (cut w) C.oO C.oN C.oA C.oP
/-- Tile `w` after the call: its share of the operands, its rows at the new contents. -/
abbrev later (C : Con F) (d : Dev nD) (w : ℕ) : sProp 𝕄 := tileRes C d w (cut w) C.rO C.rN C.rA C.rP

variable (CC : Dev nD → Con F)

/-- The handshakes' payloads: a SparseCore is handed its 16 tiles' parts, and hands them back with the new rows in. -/
def P : (K (F := F)).Pay (nD := nD) (Val := Elt F) (Name := ℕ) (U := UU) where
  st := fun q d c => match q with | 0 => bigSep Finset.univ fun i : Fin 16 => before (CC d) d (2 * i.val + c.val)
  dn := fun q d c => match q with | 0 => bigSep Finset.univ fun i : Fin 16 => later (CC d) d (2 * i.val + c.val)
  go := fun q d c i => match q with | 0 => before (CC d) d (2 * i.val + c.val)
  td := fun q d c i => match q with | 0 => later (CC d) d (2 * i.val + c.val)
  x := fun _ _ => iprop(emp)

instance P_storable : (P (F := F) CC).IsStorable where
  st q d c := match q with
    | 0 => (inferInstance : BI.Storable (upEmb : UEmb _ 𝕄) (bigSep Finset.univ fun i : Fin 16 => before (CC d) d (2 * i.val + c.val)))
  dn q d c := match q with
    | 0 => (inferInstance : BI.Storable (upEmb : UEmb _ 𝕄) (bigSep Finset.univ fun i : Fin 16 => later (CC d) d (2 * i.val + c.val)))
  go q d c i := match q with
    | 0 => (inferInstance : BI.Storable (upEmb : UEmb _ 𝕄) (before (CC d) d (2 * i.val + c.val)))
  td q d c i := match q with
    | 0 => (inferInstance : BI.Storable (upEmb : UEmb _ 𝕄) (later (CC d) d (2 * i.val + c.val)))

/-- A SparseCore's part is its tiles' parts, as handed to it. -/
theorem vecSplit : (K (F := F)).VecSplit' (P CC) 0 := by
  intro d c
  show (bigSep Finset.univ fun i : Fin 16 => before (CC d) d (2 * i.val + c.val)) ⊢ |={Set.univ}=> iprop(
      (bigSep Finset.univ fun i : Fin 16 => before (CC d) d (2 * i.val + c.val))
      ∗ ((bigSep Finset.univ fun i : Fin 16 => later (CC d) d (2 * i.val + c.val))
          -∗ (bigSep Finset.univ fun i : Fin 16 => later (CC d) d (2 * i.val + c.val))))
  iintro H; imodintro
  isplitl [H]; · iexact H
  iintro H; iexact H

/-! ## A tile's obligation -/

theorem defs₀_vector (c : Fin τ.nSC) (s : Fin τ.nSub) :
    defs₀ (F := F) (.scVector c s) 0 ()
      = SparseCore.onTile hcore0 hsub0 (fun c s => cc0__sc_scatter_kernel (coordsV c s)
            obsM (Memref.isWhole_whole _) nxtM (Memref.isWhole_whole _) actM (Memref.isWhole_whole _)
            pckM (Memref.isWhole_whole _) posM (Memref.isWhole_whole _)
            tobsM (Memref.isWhole_whole _) tnxtM (Memref.isWhole_whole _) tactM (Memref.isWhole_whole _) tpckM (Memref.isWhole_whole _)
            tobsM (Memref.isWhole_whole _) tnxtM (Memref.isWhole_whole _) tactM (Memref.isWhole_whole _) tpckM (Memref.isWhole_whole _)
            rowM (Memref.isWhole_whole _) arwM (Memref.isWhole_whole _) prwM (Memref.isWhole_whole _)
            idxM (Memref.isWhole_whole _) idaM (Memref.isWhole_whole _) idpM (Memref.isWhole_whole _) pvM (Memref.isWhole_whole _)
            cc0_scratch7 cc0_scoped0 cc0_scoped1 cc0_scoped2 cc0_scoped3 cc0_scoped4) ⟨⟩ c s := rfl

omit [BitOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile's obligation. -/
theorem tileObl (hF : (K (F := F)).Facts) : (K (F := F)).TileObl (D (F := F)) 𝒱 (P CC) v₀ 0 := by
  intro d c i O W hO _ _
  simp only [show (P CC).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (CC d) d (coordsV ⟨_, hci.1⟩ ⟨_, hci.2⟩) (cut (2 * i.val + c.val)) hF O W hO).trans (wp_mono frame _ _ fun _ => obl_post)

/-! ## The launch element of the ghost state -/

omit [BitOps F] in
theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P CC).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) CC).x q thr) = bigSep Finset.univ fun _ => iprop(emp) from
    bigSep_congr fun _ _ => bigSep_univ_of_subsingleton (0 : Fin 1), emps]
  iempintro

/-! ## Cutting the whole buffers and putting them together -/

omit [BitOps F] in
/-- The 32 tiles, by SparseCore and subcore or by number. -/
theorem tiles_range (Φ : ℕ → sProp 𝕄) :
    (bigSep Finset.univ fun c : Fin 2 => bigSep Finset.univ fun i : Fin 16 => Φ (2 * i.val + c.val))
      = bigSep (Finset.range 32) Φ := by
  rw [← bigSep_univ_prod (fun x : Fin 2 × Fin 16 => Φ (2 * x.2.val + x.1.val))]
  have hinj : Set.InjOn (fun x : Fin 2 × Fin 16 => 2 * x.2.val + x.1.val) (Finset.univ : Finset (Fin 2 × Fin 16)) := by
    intro x _ y _ h
    have h' : 2 * x.2.val + x.1.val = 2 * y.2.val + y.1.val := h
    have := x.1.isLt; have := y.1.isLt
    exact Prod.ext (Fin.ext (by omega)) (Fin.ext (by omega))
  rw [show Finset.range 32 = (Finset.univ : Finset (Fin 2 × Fin 16)).image fun x => 2 * x.2.val + x.1.val by decide]
  exact (SparseCore.bigSep_image_of_injOn hinj Φ).symm

/-- The nine buffers of the call, whole: the five operands and the four targets at the contents given. -/
def whole (C : Con F) (d : Dev nD)
    (fO fN : (Mat 131072).Idx → Elt F .f32) (fA : (Mat 32768).Idx → Elt F .f32) (fP : (Mat 4096).Idx → Elt F .i32) : sProp 𝕄 :=
  iprop(((obsLoc d ↦{fullShare} (C.sO : Buf (Elt F) (obsLoc d))) ∗ (nxtLoc d ↦{fullShare} (C.sN : Buf (Elt F) (nxtLoc d)))
      ∗ (actLoc d ↦{fullShare} (C.sA : Buf (Elt F) (actLoc d))) ∗ (pckLoc d ↦{fullShare} (C.sP : Buf (Elt F) (pckLoc d)))
      ∗ (posLoc d ↦{fullShare} ((fun _ => C.p) : Buf (Elt F) (posLoc d))))
    ∗ (tobsLoc d ↦{fullShare} (fO : Buf (Elt F) (tobsLoc d))) ∗ (tnxtLoc d ↦{fullShare} (fN : Buf (Elt F) (tnxtLoc d)))
    ∗ (tactLoc d ↦{fullShare} (fA : Buf (Elt F) (tactLoc d))) ∗ (tpckLoc d ↦{fullShare} (fP : Buf (Elt F) (tpckLoc d))))

/-- What stays at the TensorCore during the call: the rest of the operands' shares, the targets' rows no tile owns. -/
def kept (C : Con F) (d : Dev nD) : sProp 𝕄 :=
  iprop(((obsLoc d ↦{rest 32} (C.sO : Buf (Elt F) (obsLoc d))) ∗ (nxtLoc d ↦{rest 32} (C.sN : Buf (Elt F) (nxtLoc d)))
      ∗ (actLoc d ↦{rest 32} (C.sA : Buf (Elt F) (actLoc d))) ∗ (pckLoc d ↦{rest 32} (C.sP : Buf (Elt F) (pckLoc d)))
      ∗ (posLoc d ↦{rest 32} ((fun _ => C.p) : Buf (Elt F) (posLoc d))))
    ∗ (tobsLoc d ↦[Finset.univ \ owned 131072 C.p.toNat 512]{fullShare} (C.oO : Buf (Elt F) (tobsLoc d)))
    ∗ (tnxtLoc d ↦[Finset.univ \ owned 131072 C.p.toNat 512]{fullShare} (C.oN : Buf (Elt F) (tnxtLoc d)))
    ∗ (tactLoc d ↦[Finset.univ \ owned 32768 (C.p.toNat / 4) 128]{fullShare} (C.oA : Buf (Elt F) (tactLoc d)))
    ∗ (tpckLoc d ↦[Finset.univ \ ownedP (C.p.toNat / 32)]{fullShare} (C.oP : Buf (Elt F) (tpckLoc d))))

/-- The whole buffers are the tiles' parts and what is kept, when the targets' contents agree with the old ones on the
    rows no tile owns. -/
theorem whole_eq (C : Con F) (d : Dev nD)
    (fO fN : (Mat 131072).Idx → Elt F .f32) (fA : (Mat 32768).Idx → Elt F .f32) (fP : (Mat 4096).Idx → Elt F .i32)
    (hO : ∀ x, x ∉ owned 131072 C.p.toNat 512 → fO x = C.oO x) (hN : ∀ x, x ∉ owned 131072 C.p.toNat 512 → fN x = C.oN x)
    (hA : ∀ x, x ∉ owned 32768 (C.p.toNat / 4) 128 → fA x = C.oA x) (hP : ∀ x, x ∉ ownedP (C.p.toNat / 32) → fP x = C.oP x) :
    (whole C d fO fN fA fP : sProp 𝕄)
      = iprop((bigSep (Finset.range 32) fun w => tileRes C d w (cut w) fO fN fA fP) ∗ kept C d) := by
  unfold whole kept tileRes
  rw [pts_cut (ℓ := obsLoc d) _ 32, pts_cut (ℓ := nxtLoc d) _ 32, pts_cut (ℓ := actLoc d) _ 32, pts_cut (ℓ := pckLoc d) _ 32,
    pts_cut (ℓ := posLoc d) _ 32,
    pts_rows (ℓ := tobsLoc d) fO (piece 131072 C.p.toNat 512) (piece_disjoint _ _ _),
    pts_rows (ℓ := tnxtLoc d) fN (piece 131072 C.p.toNat 512) (piece_disjoint _ _ _),
    pts_rows (ℓ := tactLoc d) fA (piece 32768 (C.p.toNat / 4) 128) (piece_disjoint _ _ _),
    pts_rows (ℓ := tpckLoc d) fP (pieceP (C.p.toNat / 32)) (pieceP_disjoint _),
    show (tobsLoc d ↦[Finset.univ \ owned 131072 C.p.toNat 512]{fullShare} (fO : Buf (Elt F) (tobsLoc d)) : sProp 𝕄)
      = (tobsLoc d ↦[Finset.univ \ owned 131072 C.p.toNat 512]{fullShare} (C.oO : Buf (Elt F) (tobsLoc d)))
      from pointsTo_congr fun x hx => hO x (Finset.mem_sdiff.mp hx).2,
    show (tnxtLoc d ↦[Finset.univ \ owned 131072 C.p.toNat 512]{fullShare} (fN : Buf (Elt F) (tnxtLoc d)) : sProp 𝕄)
      = (tnxtLoc d ↦[Finset.univ \ owned 131072 C.p.toNat 512]{fullShare} (C.oN : Buf (Elt F) (tnxtLoc d)))
      from pointsTo_congr fun x hx => hN x (Finset.mem_sdiff.mp hx).2,
    show (tactLoc d ↦[Finset.univ \ owned 32768 (C.p.toNat / 4) 128]{fullShare} (fA : Buf (Elt F) (tactLoc d)) : sProp 𝕄)
      = (tactLoc d ↦[Finset.univ \ owned 32768 (C.p.toNat / 4) 128]{fullShare} (C.oA : Buf (Elt F) (tactLoc d)))
      from pointsTo_congr fun x hx => hA x (Finset.mem_sdiff.mp hx).2,
    show (tpckLoc d ↦[Finset.univ \ ownedP (C.p.toNat / 32)]{fullShare} (fP : Buf (Elt F) (tpckLoc d)) : sProp 𝕄)
      = (tpckLoc d ↦[Finset.univ \ ownedP (C.p.toNat / 32)]{fullShare} (C.oP : Buf (Elt F) (tpckLoc d)))
      from pointsTo_congr fun x hx => hP x (Finset.mem_sdiff.mp hx).2]
  simp only [bigSep_sep']
  refine eq_of ?_ ?_
  · iintro ⟨⟨⟨A1, B1⟩, ⟨A2, B2⟩, ⟨A3, B3⟩, ⟨A4, B4⟩, A5, B5⟩, ⟨A6, B6⟩, ⟨A7, B7⟩, ⟨A8, B8⟩, A9, B9⟩
    isplitl [A1 A2 A3 A4 A5 A6 A7 A8 A9]
    · isplitl [A1 A2 A3 A4 A5]
      · isplitl [A1]; · iexact A1
        isplitl [A2]; · iexact A2
        isplitl [A3]; · iexact A3
        isplitl [A4]; · iexact A4
        iexact A5
      isplitl [A6]; · iexact A6
      isplitl [A7]; · iexact A7
      isplitl [A8]; · iexact A8
      iexact A9
    · isplitl [B1 B2 B3 B4 B5]
      · isplitl [B1]; · iexact B1
        isplitl [B2]; · iexact B2
        isplitl [B3]; · iexact B3
        isplitl [B4]; · iexact B4
        iexact B5
      isplitl [B6]; · iexact B6
      isplitl [B7]; · iexact B7
      isplitl [B8]; · iexact B8
      iexact B9
  · iintro ⟨⟨⟨A1, A2, A3, A4, A5⟩, A6, A7, A8, A9⟩, ⟨B1, B2, B3, B4, B5⟩, B6, B7, B8, B9⟩
    isplitl [A1 A2 A3 A4 A5 B1 B2 B3 B4 B5]
    · isplitl [A1 B1]; · isplitl [A1] <;> iassumption
      isplitl [A2 B2]; · isplitl [A2] <;> iassumption
      isplitl [A3 B3]; · isplitl [A3] <;> iassumption
      isplitl [A4 B4]; · isplitl [A4] <;> iassumption
      isplitl [A5] <;> iassumption
    isplitl [A6 B6]; · isplitl [A6] <;> iassumption
    isplitl [A7 B7]; · isplitl [A7] <;> iassumption
    isplitl [A8 B8]; · isplitl [A8] <;> iassumption
    isplitl [A9] <;> iassumption

/-- Before the call: the whole buffers are what the SparseCores are handed, and what is kept. -/
theorem handout (d : Dev nD) :
    (whole (CC d) d (CC d).oO (CC d).oN (CC d).oA (CC d).oP : sProp 𝕄)
      = iprop((bigSep Finset.univ fun c : Fin ((K (F := F)).nCore 0) => (P CC).st 0 d c) ∗ kept (CC d) d) := by
  rw [whole_eq (CC d) d _ _ _ _ (fun _ _ => rfl) (fun _ _ => rfl) (fun _ _ => rfl) (fun _ _ => rfl)]
  exact congrArg (fun X => iprop(X ∗ kept (CC d) d)) (tiles_range (fun w => before (CC d) d w)).symm

/-- After the call: what the SparseCores hand back and what was kept are the whole buffers, the new rows in. -/
theorem gather (d : Dev nD) :
    iprop((bigSep Finset.univ fun c : Fin ((K (F := F)).nCore 0) => (P CC).dn 0 d c) ∗ kept (CC d) d)
      = (whole (CC d) d (CC d).rO (CC d).rN (CC d).rA (CC d).rP : sProp 𝕄) := by
  rw [whole_eq (CC d) d _ _ _ _
    (fun x hx => ringWrite_all_miss _ _ (not_owned (B := 512) (by omega) hx))
    (fun x hx => ringWrite_all_miss _ _ (not_owned (B := 512) (by omega) hx))
    (fun x hx => ringWrite_all_miss _ _ (not_owned (B := 128) (by omega) hx))
    (fun x hx => ringWrite_all_miss _ _ (not_ownedP hx))]
  exact congrArg (fun X => iprop(X ∗ kept (CC d) d)) (tiles_range (fun w => later (CC d) d w))

end Cert.Proof.Launch

end
-- ==== Proof.Host.lean ====
/-
  The host lines of @main before and after the SparseCore call, as two lists of operations, and @main as those two lists
  around the call.
-/
module

public import proofs.«01_k».proof.Proof.Launch
public import Idealize.ShloMosaic.Lib.StableHlo.RunRead

@[expose] public section

noncomputable section

namespace Cert.Proof.Host

open Cert.Kernel Cert.Kernel.Gen Cert.Proof.Ring Cert.Proof.Setup Idealize.ShloMosaic Idealize.ShloMosaic.TcCoe Idealize.SL.Sem Idealize.ShloMosaic.StableHlo

variable {F : FTy → Type} [BitOps F]

/-- The lines before the call: the packing of the small fields, the reshapes, the copies into the call's targets. -/
abbrev opsA : List (HloOp τ sig (Elt F)) :=
  [ reshape main_arg4 main_v0 (rfl : (.i1 : EltTy) = .i1) shapeCasts_S16384_S16384x1,
    reshape main_arg3 main_v1 (rfl : (.f32 : EltTy) = .f32) shapeCasts_S16384_S16384x1,
    unary main_v0 main_v2 ((extui 8 · natLt_1_8) : (⟨S16384x1, .i1⟩ : BufTy).Contents (Elt F) → (⟨S16384x1, .i8⟩ : BufTy).Contents (Elt F)),
    unary main_arg5 main_v3 ((extui 8 · natLt_1_8) : (⟨S16384x10, .i1⟩ : BufTy).Contents (Elt F) → (⟨S16384x10, .i8⟩ : BufTy).Contents (Elt F)),
    nullary main_c (constantI S_ 8 0#8),
    unary main_c main_v4 (broadcastInDim S16384x1 ![] bcast_S_S16384x1 : (⟨S_, .i8⟩ : BufTy).Contents (Elt F) → (⟨S16384x1, .i8⟩ : BufTy).Contents (Elt F)),
    unary main_v1 main_v5 ((fun x => Host.bitcastConvertNarrow S16384x1x4 8 (bitcastToInt x) splits_S16384x1_w32_S16384x1x4_w8) : (⟨S16384x1, .f32⟩ : BufTy).Contents (Elt F) → (⟨S16384x1x4, .i8⟩ : BufTy).Contents (Elt F)),
    reshape main_v5 main_v6 (rfl : (.i8 : EltTy) = .i8) shapeCasts_S16384x1x4_S16384x4,
    nary ![main_v2, main_v3, main_v4, main_v6] main_v7 (fun u => (concatenate S16384x16 1 [⟨S16384x1, (u 0 : (⟨S16384x1, .i8⟩ : BufTy).Contents (Elt F))⟩, ⟨S16384x10, (u 1 : (⟨S16384x10, .i8⟩ : BufTy).Contents (Elt F))⟩, ⟨S16384x1, (u 2 : (⟨S16384x1, .i8⟩ : BufTy).Contents (Elt F))⟩, ⟨S16384x4, (u 3 : (⟨S16384x4, .i8⟩ : BufTy).Contents (Elt F))⟩] concatenates_S16384x1_S16384x10_S16384x1_S16384x4_S16384x16_d1 : (⟨S16384x16, .i8⟩ : BufTy).Contents (Elt F))),
    reshape main_v7 main_v8 (rfl : (.i8 : EltTy) = .i8) shapeCasts_S16384x16_S16384x4x4,
    unary main_v8 main_v9 ((fun x => Host.bitcastConvertWiden S16384x4 32 x splits_S16384x4_w32_S16384x4x4_w8) : (⟨S16384x4x4, .i8⟩ : BufTy).Contents (Elt F) → (⟨S16384x4, .i32⟩ : BufTy).Contents (Elt F)),
    unary main_arg10 main_v10 ((extui 8 · natLt_1_8) : (⟨S131072x1, .i1⟩ : BufTy).Contents (Elt F) → (⟨S131072x1, .i8⟩ : BufTy).Contents (Elt F)),
    unary main_arg11 main_v11 ((extui 8 · natLt_1_8) : (⟨S131072x10, .i1⟩ : BufTy).Contents (Elt F) → (⟨S131072x10, .i8⟩ : BufTy).Contents (Elt F)),
    nullary main_c_0 (constantI S_ 8 0#8),
    unary main_c_0 main_v12 (broadcastInDim S131072x1 ![] bcast_S_S131072x1 : (⟨S_, .i8⟩ : BufTy).Contents (Elt F) → (⟨S131072x1, .i8⟩ : BufTy).Contents (Elt F)),
    unary main_arg9 main_v13 ((fun x => Host.bitcastConvertNarrow S131072x1x4 8 (bitcastToInt x) splits_S131072x1_w32_S131072x1x4_w8) : (⟨S131072x1, .f32⟩ : BufTy).Contents (Elt F) → (⟨S131072x1x4, .i8⟩ : BufTy).Contents (Elt F)),
    reshape main_v13 main_v14 (rfl : (.i8 : EltTy) = .i8) shapeCasts_S131072x1x4_S131072x4,
    nary ![main_v10, main_v11, main_v12, main_v14] main_v15 (fun u => (concatenate S131072x16 1 [⟨S131072x1, (u 0 : (⟨S131072x1, .i8⟩ : BufTy).Contents (Elt F))⟩, ⟨S131072x10, (u 1 : (⟨S131072x10, .i8⟩ : BufTy).Contents (Elt F))⟩, ⟨S131072x1, (u 2 : (⟨S131072x1, .i8⟩ : BufTy).Contents (Elt F))⟩, ⟨S131072x4, (u 3 : (⟨S131072x4, .i8⟩ : BufTy).Contents (Elt F))⟩] concatenates_S131072x1_S131072x10_S131072x1_S131072x4_S131072x16_d1 : (⟨S131072x16, .i8⟩ : BufTy).Contents (Elt F))),
    reshape main_v15 main_v16 (rfl : (.i8 : EltTy) = .i8) shapeCasts_S131072x16_S131072x4x4,
    unary main_v16 main_v17 ((fun x => Host.bitcastConvertWiden S131072x4 32 x splits_S131072x4_w32_S131072x4x4_w8) : (⟨S131072x4x4, .i8⟩ : BufTy).Contents (Elt F) → (⟨S131072x4, .i32⟩ : BufTy).Contents (Elt F)),
    unary main_arg12 main_v18 (broadcastInDim S16 ![] bcast_S_S16 : (⟨S_, .i32⟩ : BufTy).Contents (Elt F) → (⟨S16, .i32⟩ : BufTy).Contents (Elt F)),
    reshape main_arg8 main_v19 (rfl : (.f32 : EltTy) = .f32) shapeCasts_S131072x32_S32768x128,
    reshape main_v17 main_v20 (rfl : (.i32 : EltTy) = .i32) shapeCasts_S131072x4_S4096x128,
    reshape main_arg2 main_v21 (rfl : (.f32 : EltTy) = .f32) shapeCasts_S16384x32_S4096x128,
    reshape main_v9 main_v22 (rfl : (.i32 : EltTy) = .i32) shapeCasts_S16384x4_S512x128,
    unary main_arg6 main_v23_0 id,
    unary main_arg7 main_v23_1 id,
    unary main_v19 main_v23_2 id,
    unary main_v20 main_v23_3 id ]

/-- The lines after the call: the unpacking, and the new position and fullness flag. -/
abbrev opsB : List (HloOp τ sig (Elt F)) :=
  [ reshape main_v23_2 main_v24 (rfl : (.f32 : EltTy) = .f32) shapeCasts_S32768x128_S131072x32,
    reshape main_v23_3 main_v25 (rfl : (.i32 : EltTy) = .i32) shapeCasts_S4096x128_S131072x4,
    unary main_v25 main_v26 ((fun x => Host.bitcastConvertNarrow S131072x4x4 8 x splits_S131072x4_w32_S131072x4x4_w8) : (⟨S131072x4, .i32⟩ : BufTy).Contents (Elt F) → (⟨S131072x4x4, .i8⟩ : BufTy).Contents (Elt F)),
    reshape main_v26 main_v27 (rfl : (.i8 : EltTy) = .i8) shapeCasts_S131072x4x4_S131072x16,
    unary main_v27 main_v28 ((extractStridedSlice S131072x1 ![0, 0] · slices_S131072x16_S131072x1_0_0) : (⟨S131072x16, .i8⟩ : BufTy).Contents (Elt F) → (⟨S131072x1, .i8⟩ : BufTy).Contents (Elt F)),
    nullary main_c_1 (constantI S_ 8 0#8),
    unary main_c_1 main_v29 (broadcastInDim S131072x1 ![] bcast_S_S131072x1 : (⟨S_, .i8⟩ : BufTy).Contents (Elt F) → (⟨S131072x1, .i8⟩ : BufTy).Contents (Elt F)),
    binary main_v28 main_v29 main_v30 (cmpi .ne : (⟨S131072x1, .i8⟩ : BufTy).Contents (Elt F) → (⟨S131072x1, .i8⟩ : BufTy).Contents (Elt F) → (⟨S131072x1, .i1⟩ : BufTy).Contents (Elt F)),
    unary main_v30 main_v31 (id : (⟨S131072x1, .i1⟩ : BufTy).Contents (Elt F) → (⟨S131072x1, .i1⟩ : BufTy).Contents (Elt F)),
    unary main_v27 main_v32 ((extractStridedSlice S131072x10 ![0, 1] · slices_S131072x16_S131072x10_0_1) : (⟨S131072x16, .i8⟩ : BufTy).Contents (Elt F) → (⟨S131072x10, .i8⟩ : BufTy).Contents (Elt F)),
    nullary main_c_2 (constantI S_ 8 0#8),
    unary main_c_2 main_v33 (broadcastInDim S131072x10 ![] bcast_S_S131072x10 : (⟨S_, .i8⟩ : BufTy).Contents (Elt F) → (⟨S131072x10, .i8⟩ : BufTy).Contents (Elt F)),
    binary main_v32 main_v33 main_v34 (cmpi .ne : (⟨S131072x10, .i8⟩ : BufTy).Contents (Elt F) → (⟨S131072x10, .i8⟩ : BufTy).Contents (Elt F) → (⟨S131072x10, .i1⟩ : BufTy).Contents (Elt F)),
    unary main_v34 main_v35 (id : (⟨S131072x10, .i1⟩ : BufTy).Contents (Elt F) → (⟨S131072x10, .i1⟩ : BufTy).Contents (Elt F)),
    unary main_v25 main_v36 ((extractStridedSlice S131072x1 ![0, 3] · slices_S131072x4_S131072x1_0_3) : (⟨S131072x4, .i32⟩ : BufTy).Contents (Elt F) → (⟨S131072x1, .i32⟩ : BufTy).Contents (Elt F)),
    unary main_v36 main_v37 (bitcastToFloat .f32 : (⟨S131072x1, .i32⟩ : BufTy).Contents (Elt F) → (⟨S131072x1, .f32⟩ : BufTy).Contents (Elt F)),
    nullary main_c_3 (constantI S_ 32 16384#32),
    binary main_arg12 main_c_3 main_v38 (addi : (⟨S_, .i32⟩ : BufTy).Contents (Elt F) → (⟨S_, .i32⟩ : BufTy).Contents (Elt F) → (⟨S_, .i32⟩ : BufTy).Contents (Elt F)),
    nullary main_c_4 (constantI S_ 32 131072#32),
    TRef.unary (TRef.of (T := ⟨S_, .i32⟩) main_c_4) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.binary (TRef.of (T := ⟨S_, .i32⟩) main_v38) (TRef.of (T := ⟨S_, .i32⟩) main_call0_v2) (TRef.of (T := ⟨S_, .i32⟩) main_call0_v3) Host.remsi,
    TRef.nullary (TRef.of (T := ⟨S_, .i32⟩) main_call0_c_1) (constantI S_ 32 0#32),
    TRef.binary (TRef.of (T := ⟨S_, .i32⟩) main_call0_v3) (TRef.of (T := ⟨S_, .i32⟩) main_call0_c_1) (TRef.of (T := ⟨S_, .i1⟩) main_call0_v4) (cmpi .ne),
    TRef.nullary (TRef.of (T := ⟨S_, .i32⟩) main_call0_c_2) (constantI S_ 32 0#32),
    TRef.binary (TRef.of (T := ⟨S_, .i32⟩) main_call0_v3) (TRef.of (T := ⟨S_, .i32⟩) main_call0_c_2) (TRef.of (T := ⟨S_, .i1⟩) main_call0_v5) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v6) (cmpi .slt),
    TRef.binary (TRef.of (T := ⟨S_, .i1⟩) main_call0_v5) (TRef.of (T := ⟨S_, .i1⟩) main_call0_v6) (TRef.of (T := ⟨S_, .i1⟩) main_call0_v7) (cmpi .ne),
    TRef.binary (TRef.of (T := ⟨S_, .i1⟩) main_call0_v7) (TRef.of (T := ⟨S_, .i1⟩) main_call0_v4) (TRef.of (T := ⟨S_, .i1⟩) main_call0_v8) andi,
    TRef.binary (TRef.of (T := ⟨S_, .i32⟩) main_call0_v3) (TRef.of (T := ⟨S_, .i32⟩) main_call0_v2) (TRef.of (T := ⟨S_, .i32⟩) main_call0_v9) addi,
    TRef.ternary (TRef.of (T := ⟨S_, .i1⟩) main_call0_v8) (TRef.of (T := ⟨S_, .i32⟩) main_call0_v9) (TRef.of (T := ⟨S_, .i32⟩) main_call0_v3) (TRef.of (T := ⟨S_, .i32⟩) main_v39) select,
    nullary main_c_5 (constantI S_ 32 16384#32),
    binary main_arg12 main_c_5 main_v40 (addi : (⟨S_, .i32⟩ : BufTy).Contents (Elt F) → (⟨S_, .i32⟩ : BufTy).Contents (Elt F) → (⟨S_, .i32⟩ : BufTy).Contents (Elt F)),
    nullary main_c_6 (constantI S_ 32 131072#32),
    binary main_v40 main_c_6 main_v41 (cmpi .sge : (⟨S_, .i32⟩ : BufTy).Contents (Elt F) → (⟨S_, .i32⟩ : BufTy).Contents (Elt F) → (⟨S_, .i1⟩ : BufTy).Contents (Elt F)),
    binary main_arg13 main_v41 main_v42 (ori : (⟨S_, .i1⟩ : BufTy).Contents (Elt F) → (⟨S_, .i1⟩ : BufTy).Contents (Elt F) → (⟨S_, .i1⟩ : BufTy).Contents (Elt F)) ]

set_option maxRecDepth 8192 in
set_option maxHeartbeats 4000000 in
/-- @main is the first list, the call, the second list. -/
theorem main_eq (d : Dev nD) : main (F := F) d = (seq opsA >>= fun _ => (K (F := F)).run d 0 >>= fun _ => seq opsB) := rfl

set_option maxRecDepth 8192 in
theorem opsA_sub : (opsA : List (HloOp τ sig (Elt F))).Forall fun op => op.bufs ⊆ tcRefs τ sig :=
  ⟨reshape_bufs_sub .., reshape_bufs_sub .., unary_bufs_sub .., unary_bufs_sub .., nullary_bufs_sub .., unary_bufs_sub .., unary_bufs_sub .., reshape_bufs_sub .., nary_bufs_sub .., reshape_bufs_sub .., unary_bufs_sub .., unary_bufs_sub .., unary_bufs_sub .., nullary_bufs_sub .., unary_bufs_sub .., unary_bufs_sub .., reshape_bufs_sub .., nary_bufs_sub .., reshape_bufs_sub .., unary_bufs_sub .., unary_bufs_sub .., reshape_bufs_sub .., reshape_bufs_sub .., reshape_bufs_sub .., reshape_bufs_sub .., unary_bufs_sub .., unary_bufs_sub .., unary_bufs_sub .., unary_bufs_sub ..⟩

set_option maxRecDepth 8192 in
theorem opsB_sub : (opsB : List (HloOp τ sig (Elt F))).Forall fun op => op.bufs ⊆ tcRefs τ sig :=
  ⟨reshape_bufs_sub .., reshape_bufs_sub .., unary_bufs_sub .., reshape_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., nullary_bufs_sub .., binary_bufs_sub .., nullary_bufs_sub .., unary_bufs_sub .., nullary_bufs_sub .., binary_bufs_sub .., nullary_bufs_sub .., ternary_bufs_sub .., binary_bufs_sub .., nullary_bufs_sub .., binary_bufs_sub .., nullary_bufs_sub .., binary_bufs_sub .., nullary_bufs_sub .., binary_bufs_sub .., binary_bufs_sub .., binary_bufs_sub .., binary_bufs_sub .., ternary_bufs_sub .., nullary_bufs_sub .., binary_bufs_sub .., nullary_bufs_sub .., binary_bufs_sub .., binary_bufs_sub ..⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

end Cert.Proof.Host

end
-- ==== Proof.Main.lean ====
/-
  @main on the TensorCore, run once: the lines before the call, the call, the lines after it. `Vend` is what every
  TensorCore buffer holds at the end; `run_main` says that every execution ends there, with every counter at zero.
-/
module

public import proofs.«01_k».proof.Proof.Host
public import Idealize.ShloMosaic.Lib.Pipeline.Frame

@[expose] public section

noncomputable section

namespace Cert.Proof.Main

open Cert.Kernel Cert.Kernel.Gen Cert.Proof.Ring Cert.Proof.Setup Cert.Proof.Launch Cert.Proof.Host

open Idealize.ShloMosaic
open Idealize.ShloMosaic.SparseCore (S V)
open Idealize.ShloMosaic.SparseCore.Cfg (HIx Pay)
open Idealize.ShloMosaic.StableHlo (held held_sub_split held_congr after seq)
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [BitOps F]

local notation "𝕄" => MT nD τ sig (HIx 1) (Elt F) ℕ UU ℕ

/-- A TensorCore buffer of the device, by its reference. -/
abbrev tcr (r : Ref sig .tc) : DevRef τ sig := Proc.devRef .tc r

variable (m : (ℓ : Loc nD τ sig) → Buf (Elt F) ℓ) (ρ : Dev nD → PrngReg)

/-! ## What the buffers hold before and after the call, and at the end -/

/-- At the launch. -/
abbrev V0 (d : Dev nD) : Valuation τ sig (Elt F) := fun b => m (d, b)

/-- When the call starts. -/
def VA (d : Dev nD) : Valuation τ sig (Elt F) := after opsA (V0 m d)

/-- The call's contents: the position word, the operands' and the targets' rows. -/
def con (d : Dev nD) : Con F where
  p := (m (d, tcr main_arg12) : S_.Idx → BitVec 32) (fun i => i.elim0)
  sO := VA m d (tcr main_arg0)
  sN := VA m d (tcr main_arg1)
  sA := VA m d (tcr main_v21)
  sP := VA m d (tcr main_v22)
  oO := VA m d (tcr main_v23_0)
  oN := VA m d (tcr main_v23_1)
  oA := VA m d (tcr main_v23_2)
  oP := VA m d (tcr main_v23_3)

/-- When the call is over: the four targets hold the new rows. -/
def VB (d : Dev nD) : Valuation τ sig (Elt F) :=
  Function.update (Function.update (Function.update (Function.update (VA m d)
    (tcr main_v23_0) (con m d).rO) (tcr main_v23_1) (con m d).rN) (tcr main_v23_2) (con m d).rA) (tcr main_v23_3) (con m d).rP

/-- At the end. -/
def Vend (d : Dev nD) : Valuation τ sig (Elt F) := after opsB (VB m d)

/-- The position buffer holds the position word in every lane. -/
theorem VA_pos (d : Dev nD) : VA m d (tcr main_v18) = fun _ => (con m d).p := by
  unfold VA tcr
  after_reads_simp
  funext i
  exact congrArg (m (d, Proc.devRef .tc main_arg12)) (funext fun k => k.elim0)

/-! ## The call's nine buffers out of all of them -/

/-- The call's nine buffers. -/
def nine : Finset (DevRef τ sig) :=
  {tcr main_arg0, tcr main_arg1, tcr main_v21, tcr main_v22, tcr main_v18, tcr main_v23_0, tcr main_v23_1, tcr main_v23_2, tcr main_v23_3}

omit [BitOps F] in
/-- Different references are different buffers. -/
theorem tcr_ne {a b : Ref sig .tc} (h : a ≠ b) : tcr a ≠ tcr b := fun e => h (Proc.devRef_injective _ e)

omit [BitOps F] in
/-- The nine buffers are among those of the TensorCore. -/
theorem nine_sub : nine ⊆ ucRefs τ sig := by
  intro b hb
  simp only [nine, Finset.mem_insert, Finset.mem_singleton] at hb
  rcases hb with rfl | rfl | rfl | rfl | rfl | rfl | rfl | rfl | rfl
  all_goals exact Finset.mem_filter.mpr ⟨StableHlo.devRef_mem_tcRefs _, by decide⟩

omit [BitOps F] in
/-- The nine buffers held at a valuation, one by one. -/
theorem held_nine (d : Dev nD) (W : Valuation τ sig (Elt F)) :
    (held (SparseCore.T d) nine W : sProp 𝕄)
      = iprop((obsLoc d ↦{fullShare} W (tcr main_arg0)) ∗ (nxtLoc d ↦{fullShare} W (tcr main_arg1)) ∗ (actLoc d ↦{fullShare} W (tcr main_v21))
        ∗ (pckLoc d ↦{fullShare} W (tcr main_v22)) ∗ (posLoc d ↦{fullShare} W (tcr main_v18)) ∗ (tobsLoc d ↦{fullShare} W (tcr main_v23_0))
        ∗ (tnxtLoc d ↦{fullShare} W (tcr main_v23_1)) ∗ (tactLoc d ↦{fullShare} W (tcr main_v23_2)) ∗ tpckLoc d ↦{fullShare} W (tcr main_v23_3)) := by
  unfold held nine
  rw [SparseCore.bigSep_insert', SparseCore.bigSep_insert', SparseCore.bigSep_insert', SparseCore.bigSep_insert', SparseCore.bigSep_insert',
    SparseCore.bigSep_insert', SparseCore.bigSep_insert', SparseCore.bigSep_insert', bigSep_singleton]
  all_goals
    simp only [Finset.mem_insert, Finset.mem_singleton, not_or]
    repeat' apply And.intro
  all_goals exact tcr_ne (by decide)

omit [BitOps F] in
/-- Nine pieces, regrouped as five and four. -/
theorem regroup {A1 A2 A3 A4 A5 A6 A7 A8 A9 : sProp 𝕄} :
    iprop(A1 ∗ A2 ∗ A3 ∗ A4 ∗ A5 ∗ A6 ∗ A7 ∗ A8 ∗ A9) = iprop((A1 ∗ A2 ∗ A3 ∗ A4 ∗ A5) ∗ A6 ∗ A7 ∗ A8 ∗ A9) := by
  refine eq_of ?_ ?_
  · iintro ⟨H1, H2, H3, H4, H5, H6⟩
    isplitr [H6]
    · isplitl [H1]; · iexact H1
      isplitl [H2]; · iexact H2
      isplitl [H3]; · iexact H3
      isplitl [H4]; · iexact H4
      iexact H5
    · iexact H6
  · iintro ⟨⟨H1, H2, H3, H4, H5⟩, H6⟩
    isplitl [H1]; · iexact H1
    isplitl [H2]; · iexact H2
    isplitl [H3]; · iexact H3
    isplitl [H4]; · iexact H4
    isplitl [H5]; · iexact H5
    iexact H6

/-- All the buffers when the call starts: the call's nine, and the rest. -/
theorem held_VA (d : Dev nD) :
    (held (SparseCore.T d) (ucRefs τ sig) (VA m d) : sProp 𝕄)
      = iprop(whole (con m d) d (con m d).oO (con m d).oN (con m d).oA (con m d).oP ∗ held (SparseCore.T d) (ucRefs τ sig \ nine) (VA m d)) := by
  rw [held_sub_split (SparseCore.T d) nine_sub, held_nine, VA_pos, regroup]
  rfl

/-- The call changes no buffer but its four targets. -/
theorem VB_of_ne (d : Dev nD) {b : DevRef τ sig} (h0 : b ≠ tcr main_v23_0) (h1 : b ≠ tcr main_v23_1) (h2 : b ≠ tcr main_v23_2)
    (h3 : b ≠ tcr main_v23_3) : VB m d b = VA m d b := by
  unfold VB
  rw [Function.update_of_ne h3, Function.update_of_ne h2, Function.update_of_ne h1, Function.update_of_ne h0]

/-- The first target after the call. -/
theorem VB_obs (d : Dev nD) : VB m d (tcr main_v23_0) = (con m d).rO := by
  unfold VB
  rw [Function.update_of_ne (tcr_ne (by decide)), Function.update_of_ne (tcr_ne (by decide)), Function.update_of_ne (tcr_ne (by decide)), Function.update_self]
/-- The second. -/
theorem VB_nxt (d : Dev nD) : VB m d (tcr main_v23_1) = (con m d).rN := by
  unfold VB
  rw [Function.update_of_ne (tcr_ne (by decide)), Function.update_of_ne (tcr_ne (by decide)), Function.update_self]
/-- The third. -/
theorem VB_act (d : Dev nD) : VB m d (tcr main_v23_2) = (con m d).rA := by
  unfold VB
  rw [Function.update_of_ne (tcr_ne (by decide)), Function.update_self]
/-- The fourth. -/
theorem VB_pck (d : Dev nD) : VB m d (tcr main_v23_3) = (con m d).rP := by
  unfold VB
  rw [Function.update_self]

/-- All the buffers when the call is over: the call's nine with the new rows in, and the rest untouched. -/
theorem held_VB (d : Dev nD) :
    (held (SparseCore.T d) (ucRefs τ sig) (VB m d) : sProp 𝕄)
      = iprop(whole (con m d) d (con m d).rO (con m d).rN (con m d).rA (con m d).rP ∗ held (SparseCore.T d) (ucRefs τ sig \ nine) (VA m d)) := by
  rw [held_sub_split (SparseCore.T d) nine_sub, held_nine, VB_obs, VB_nxt, VB_act, VB_pck,
    VB_of_ne m d (b := tcr main_arg0) (tcr_ne (by decide)) (tcr_ne (by decide)) (tcr_ne (by decide)) (tcr_ne (by decide)),
    VB_of_ne m d (b := tcr main_arg1) (tcr_ne (by decide)) (tcr_ne (by decide)) (tcr_ne (by decide)) (tcr_ne (by decide)),
    VB_of_ne m d (b := tcr main_v21) (tcr_ne (by decide)) (tcr_ne (by decide)) (tcr_ne (by decide)) (tcr_ne (by decide)),
    VB_of_ne m d (b := tcr main_v22) (tcr_ne (by decide)) (tcr_ne (by decide)) (tcr_ne (by decide)) (tcr_ne (by decide)),
    VB_of_ne m d (b := tcr main_v18) (tcr_ne (by decide)) (tcr_ne (by decide)) (tcr_ne (by decide)) (tcr_ne (by decide)), VA_pos,
    held_congr (SparseCore.T d) (S := ucRefs τ sig \ nine) (V := VB m d) (V' := VA m d) fun b hb =>
      VB_of_ne m d (fun e => (Finset.mem_sdiff.mp hb).2 (by rw [e]; simp [nine])) (fun e => (Finset.mem_sdiff.mp hb).2 (by rw [e]; simp [nine]))
        (fun e => (Finset.mem_sdiff.mp hb).2 (by rw [e]; simp [nine])) (fun e => (Finset.mem_sdiff.mp hb).2 (by rw [e]; simp [nine])),
    regroup]
  rfl

/-! ## @main -/

/-- What @main ends with: every buffer of the TensorCore at its final contents. -/
abbrev FIN (d : Dev nD) : sProp 𝕄 := held (SparseCore.T d) (ucRefs τ sig) (Vend m d)

/-- @main on device `d`'s TensorCore: the lines before the call over all its buffers, the call from the nine it takes,
    the lines after it. -/
theorem hmain (κ : GSem nD τ sig → ℕ) (d : Dev nD) :
    iprop((K (F := F)).ctx EH (P (con m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    unscopedBufs_held d (V0 m d), main_eq]
  iintro ⟨#Hctx, Hst, ⟨Hb, Hheld, Hts, -⟩, -⟩
  iapply (StableHlo.wp_seq (defs := (K (F := F)).defs (D (F := F))) (𝒱 := 𝒱) (bd := none) (E := Set.univ) d (ucRefs τ sig) _ opsA
    (fun op h => sub_ucRefs op (List.forall_iff_forall_mem.mp opsA_sub op h)) opsA_fresh (V0 m d)) $$ [Hb Hheld]
  · isplitl [Hb] <;> iassumption
  iintro ⟨Hb, Hheld⟩
  ihave Hh := (Entails.of_eq ((show (held d.tc (ucRefs τ sig) (after opsA (V0 m d)) : sProp 𝕄) = held (SparseCore.T d) (ucRefs τ sig) (VA m d) from rfl).trans (held_VA m d))) $$ Hheld
  icases Hh with ⟨Hw, Hrest⟩
  ihave Hw' := (Entails.of_eq (handout (con m) d)) $$ Hw
  icases Hw' with ⟨Hgo, Hkept⟩
  rw [wp_bind]
  iapply ((K (F := F)).wp_run (D (F := F)) 𝒱 (EH := EH) (P := P (con m)) κ d 0) $$ [Hst Hgo Hkept Hrest Hb Hts]
  isplitr; · iexact Hctx
  isplitl [Hst]; · iexact Hst
  isplitl [Hgo]; · iexact Hgo
  iintro ⟨Hst, Hdn⟩
  ihave Hw := (Entails.of_eq (gather (con m) d)) $$ [Hdn Hkept]
  · isplitl [Hdn] <;> iassumption
  ihave Hheld := (Entails.of_eq (held_VB m d).symm) $$ [Hw Hrest]
  · isplitl [Hw] <;> iassumption
  rw [show (seq opsB : Prog (TpuEff nD τ sig (Elt F) _ .tc) PUnit) = (seq opsB >>= fun u => pure u) from (bind_pure _).symm]
  iapply (StableHlo.wp_seq (defs := (K (F := F)).defs (D (F := F))) (𝒱 := 𝒱) (bd := none) (E := Set.univ) d (ucRefs τ sig) _ opsB
    (fun op h => sub_ucRefs op (List.forall_iff_forall_mem.mp opsB_sub op h)) opsB_fresh (VB m d)) $$ [Hb Hheld]
  · isplitl [Hb] <;> iassumption
  iintro ⟨Hb, Hheld⟩
  rw [wp_pure]; imodintro
  isplitl [Hst]; · iexact Hst
  isplitl [Hheld]; · iexact Hheld
  isplitl [Hb] <;> iassumption

/-! ## The final memory -/

/-- What the claims read of the final state: every TensorCore buffer at its final contents. -/
def fq (d : Dev nD) (s' : Phys nD τ sig (Elt F)) : Prop := ∀ b ∈ ucRefs τ sig, s'.mem.mem (d, b) = Vend m d b

omit [BitOps F] in
/-- Buffers held at a valuation are at it in the memory. -/
theorem held_read (d : Dev nD) (W : Valuation τ sig (Elt F)) (s' : Phys nD τ sig (Elt F)) (R : Finset (DevRef τ sig)) :
    iprop(held (SparseCore.T d) R W ∗ SI s') ⊢ (iprop(⌜∀ b ∈ R, s'.mem.mem (d, b) = W b⌝ ∗ SI s') : sProp 𝕄) := by
  induction R using Finset.induction_on with
  | empty =>
    iintro ⟨-, HSI⟩
    isplitr
    · ipureintro; intro b hb; exact absurd hb (Finset.notMem_empty b)
    · iexact HSI
  | insert b R hb ih =>
    unfold held at ih ⊢
    rw [SparseCore.bigSep_insert' hb]
    iintro ⟨⟨Hb, HR⟩, HSI⟩
    ihave H := (persistent_entails_right (SI_pointsTo_agree (st := s') (ℓ := ((d, b) : Loc nD τ sig)) (I := Finset.univ) (q := fullShare) (f := W b))) $$ [HSI Hb]
    · isplitl [HSI] <;> iassumption
    icases H with ⟨%h1, HSI, -⟩
    ihave H := ih $$ [HR HSI]
    · isplitl [HR] <;> iassumption
    icases H with ⟨%h2, HSI⟩
    isplitr
    · ipureintro
      intro b' hb'
      rcases Finset.mem_insert.mp hb' with rfl | h
      · exact funext fun i => h1 i (Finset.mem_univ i)
      · exact h2 b' h
    · iexact HSI

/-- The final state holds what @main hands over at its end. -/
theorem hfin (d : Dev nD) (s' : Phys nD τ sig (Elt F)) : iprop(FIN m d ∗ SI s') ⊢ (⌜fq m d s'⌝ : sProp 𝕄) := by
  iintro H
  ihave H' := (held_read d (Vend m d) s' (ucRefs τ sig)) $$ H
  icases H' with ⟨%h, -⟩
  ipureintro; exact h

/-! ## The program's run -/

/-- The final state: every TensorCore buffer at its final contents, every counter at zero. -/
def QC : PUnit × MemSt nD τ sig (Elt F) → Prop := fun r => (∀ d : Dev nD, ∀ b ∈ ucRefs τ sig, r.2.mem (d, b) = Vend m d b) ∧ r.2.sem = fun _ => 0

/-- Every execution of the program ends, every TensorCore buffer at its final contents and every counter at zero. -/
theorem run_main [∀ e, Nonempty (Elt F e)] :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (con m)) (A := ∅) facts v₀
    (fun q hq => match q with | 0 => nomatch hq)
    (fun q _ => match q with | 0 => tileObl (con m) facts)
    (fun q _ => match q with | 0 => SparseCore.Cfg.VecSplit.of_plain (vecSplit (con m)))
    m ρ main (fun _ => iprop(emp)) (FIN m) (u₀ (F := F)) (sep_elim_left.trans (hu₀ (con m))) (hmain m ρ) (fq m) (hfin m) (QC m) (fun _ h hz => ⟨h, hz⟩)

end Cert.Proof.Main

end
-- ==== Proof.Rows.lean ====
/-
  The insertion as an operation on arrays of rows, at any row width: `ringRows N K p U D` is `D` with the `K` rows of `U`
  put in from row `p mod N` on. `scatter_rows` says that the host's scatter, given the row numbers `(p + i) mod N`, is that
  insertion; `floorMod_word` and `index_word` say that the words it is given are those numbers; `ungroup` says that
  inserting groups of rows laid side by side, and taking the groups apart again, is inserting the rows.
-/
module

public import proofs.«01_k».proof.Proof.Ring
public import Idealize.ShloMosaic.Lib.Routing.OpsSet
public import Idealize.ShloMosaic.Lib.Routing.OpsPair
public import Idealize.ShloMosaic.Lib.Affine
public import Idealize.ShloMosaic.Lib.Pipeline.Value

@[expose] public section

noncomputable section

namespace Cert.Proof.Rows

open Idealize.ShloMosaic Idealize.ShloMosaic.ValueIdx Cert.Proof.Ring

/-- `n` rows of `w`. -/
abbrev Sh (n w : ℕ) : Shape := ⟨2, ![n, w]⟩

/-- `D` with the rows of `U` put in, from row `p mod N` on. -/
def ringRows {α : Type} (N K : ℕ) {w : ℕ} (p : ℕ) (U : (Sh K w).Idx → α) (D : (Sh N w).Idx → α) : (Sh N w).Idx → α := fun x =>
  if h : ahead N p (x 0).val < K then U (ix2 ⟨ahead N p (x 0).val, h⟩ (x 1)) else D x

/-- The same insertion is pointwise: it commutes with a map applied to every element of both arrays. -/
theorem ringRows_map {α β : Type} (f : α → β) (N K : ℕ) {w : ℕ} (p : ℕ) (U : (Sh K w).Idx → α) (D : (Sh N w).Idx → α) (x : (Sh N w).Idx) :
    f (ringRows N K p U D x) = ringRows N K p (fun i => f (U i)) (fun i => f (D i)) x := by
  unfold ringRows
  split <;> rfl

/-- At rows of 128 it is `ringWrite` of all the rows. -/
theorem ringWrite_eq_rows {α : Type} (N K p : ℕ) (U : (Mat K).Idx → α) (D : (Mat N).Idx → α) :
    ringWrite N K p 0 K U D = ringRows N K p U D := by
  funext x
  unfold ringWrite ringRows
  by_cases h : ahead N p (x 0).val < K
  · rw [dif_pos ⟨Nat.zero_le _, h, h⟩, dif_pos h]
  · rw [dif_neg fun h' => h h'.2.2, dif_neg h]

/-! ## The host's scatter of rows -/

/-- The dimension numbers of a scatter of `K` rows of `w` into `N` rows of `w`, one index word to a row. -/
def rowDims (N K w : ℕ) (wf : ScatterDims.WF (Sh N w) (Sh K 1) (Sh K w) [1] [0] [0] 1) : ScatterDims (Sh N w) (Sh K 1) (Sh K w) where
  updateWindowDims := [1]
  insertedWindowDims := [0]
  scatterDimsToOperandDims := [0]
  indexVectorDim := 1
  wf := wf

variable {N K w : ℕ} (wf : ScatterDims.WF (Sh N w) (Sh K 1) (Sh K w) [1] [0] [0] 1)

/-- Update `(i, c')` lands at row `r`, column `c` exactly when its index word, read signed, is `r` and `c'` is `c`. -/
theorem lands (idx : IVec (Sh K 1) 32) (i : Fin K) (c' : Fin w) (r : Fin N) (c : Fin w) :
    (rowDims N K w wf).resultIdx? (ix2 i c') idx = some (ix2 r c) ↔ (idx (ix2 i (0 : Fin 1))).toInt = (r.val : ℤ) ∧ c'.val = c.val := by
  rw [Routing.resultIdx?_eq_some]
  have hs0 : (rowDims N K w wf).start (ix2 i c') idx 0 = (idx (ix2 i (0 : Fin 1))).toInt := by
    have hsi : (rowDims N K w wf).siIdx (ix2 i c') ⟨0, Nat.zero_lt_one⟩ = ix2 i (0 : Fin 1) := by
      funext b
      match b with
      | ⟨0, _⟩ => rfl
      | ⟨1, _⟩ => rfl
    rw [← hsi]; rfl
  have hs1 : (rowDims N K w wf).start (ix2 i c') idx 1 = 0 := rfl
  have hw0 : (rowDims N K w wf).window (ix2 i c') 0 = 0 := rfl
  have hw1 : (rowDims N K w wf).window (ix2 i c') 1 = c'.val := rfl
  constructor
  · intro h
    have h0 := h 0
    have h1 := h 1
    rw [hs0, hw0] at h0
    rw [hs1, hw1] at h1
    refine ⟨?_, ?_⟩
    · have : ((ix2 r c : (Sh N w).Idx) 0).val = r.val := rfl
      rw [this] at h0; omega
    · have : ((ix2 r c : (Sh N w).Idx) 1).val = c.val := rfl
      rw [this] at h1; omega
  · intro h a
    match a with
    | ⟨0, _⟩ =>
      show (rowDims N K w wf).start (ix2 i c') idx 0 + ((rowDims N K w wf).window (ix2 i c') 0 : ℤ) = (r.val : ℤ)
      rw [hs0, hw0, h.1]; rfl
    | ⟨1, _⟩ =>
      show (rowDims N K w wf).start (ix2 i c') idx 1 + ((rowDims N K w wf).window (ix2 i c') 1 : ℤ) = (c.val : ℤ)
      rw [hs1, hw1, h.2]; omega

/-- The host's scatter of `K ≤ N` rows at the row numbers `(p + i) mod N` puts them in from row `p mod N` on. -/
theorem scatter_rows {α : Type} (hN : 0 < N) (hKN : K ≤ N) (p : ℕ) (idx : IVec (Sh K 1) 32)
    (hidx : ∀ i : Fin K, (idx (ix2 i (0 : Fin 1))).toInt = (((p + i.val) % N : ℕ) : ℤ)) (U : (Sh K w).Idx → α) (D : (Sh N w).Idx → α) :
    Host.scatter (rowDims N K w wf) (fun _ b => b) D idx U = ringRows N K p U D := by
  funext x
  obtain ⟨r, c, rfl⟩ : ∃ r c, x = ix2 r c := ⟨x 0, x 1, eq_ix2 x⟩
  have hl : ∀ (i : Fin K) (c' : Fin w), (rowDims N K w wf).resultIdx? (ix2 i c') idx = some (ix2 r c) → i.val = ahead N p r.val ∧ c' = c := by
    intro i c' h
    obtain ⟨h1, h2⟩ := (lands wf idx i c' r c).mp h
    rw [hidx] at h1
    exact ⟨(ahead_eq hN r.isLt (by have := i.isLt; omega) (by exact_mod_cast h1)).symm, Fin.ext h2⟩
  unfold ringRows
  by_cases h : ahead N p r.val < K
  · rw [dif_pos (show ahead N p ((ix2 r c : (Sh N w).Idx) 0).val < K from h)]
    refine Routing.scatter_set_hit _ _ _ _ _ _ (fun k hk => ?_) (ix2 ⟨ahead N p r.val, h⟩ c) ?_
    · obtain ⟨i, c', rfl⟩ : ∃ i c', k = ix2 i c' := ⟨k 0, k 1, eq_ix2 k⟩
      obtain ⟨hi, hc⟩ := hl i c' hk
      subst hc
      congr 1
      rw [show i = ⟨ahead N p r.val, h⟩ from Fin.ext hi]
      rfl
    · refine (lands wf idx _ c r c).mpr ⟨?_, rfl⟩
      rw [hidx]
      exact_mod_cast add_ahead hN p r.isLt
  · rw [dif_neg (show ¬ ahead N p ((ix2 r c : (Sh N w).Idx) 0).val < K from h)]
    refine Routing.scatter_set_miss _ _ _ _ _ fun k hk => ?_
    obtain ⟨i, c', rfl⟩ : ∃ i c', k = ix2 i c' := ⟨k 0, k 1, eq_ix2 k⟩
    exact h ((hl i c' hk).1 ▸ i.isLt)

/-! ## The row numbers -/

/-- The divisor, as it is spelled: 131072, or one where that is zero. -/
def divisor : BitVec 32 := if IntOp.cmpi .eq (131072#32 : BitVec 32) 0#32 = 1#1 then 1#32 else 131072#32

/-- It is 131072. -/
theorem divisor_eq : divisor = 131072#32 := by decide

/-- The remainder of the floor division of a word by 131072, as it is spelled: the truncated remainder, plus the divisor
    when the remainder is not zero and its sign is not the divisor's. -/
def floorMod (x : BitVec 32) : BitVec 32 :=
  if IntOp.andi (IntOp.cmpi .ne (IntOp.cmpi .slt (IntOp.remsi .host x divisor) 0#32) (IntOp.cmpi .slt divisor 0#32))
      (IntOp.cmpi .ne (IntOp.remsi .host x divisor) 0#32) = 1#1 then
    IntOp.addi (IntOp.remsi .host x divisor) divisor
  else IntOp.remsi .host x divisor

/-- It is the word's number modulo 131072. -/
theorem floorMod_word (x : BitVec 32) : (floorMod x).toInt = ((x.toNat % 131072 : ℕ) : ℤ) := by
  have hr : IntOp.remsi .host x 131072#32 = x.srem 131072#32 := IntOp.remsi_of_pos _ (by decide)
  have hi : (x.srem 131072#32).toInt = x.toInt.tmod 131072 := by rw [BitVec.toInt_srem]; rfl
  have hz : IntOp.cmpi .slt (131072#32 : BitVec 32) 0#32 = 0#1 := by decide
  have key : x.toInt % 131072 = ((x.toNat % 131072 : ℕ) : ℤ) := by
    rw [BitVec.toInt_eq_toNat_cond]
    split <;> omega
  have ht := Int.emod_def x.toInt 131072
  have hb : -131072 < x.toInt.tmod 131072 ∧ x.toInt.tmod 131072 < 131072 :=
    ⟨Int.lt_tmod_of_pos _ (by decide), Int.tmod_lt_of_pos _ (by decide)⟩
  unfold floorMod
  rw [divisor_eq, hr, hz]
  have hc : IntOp.andi (IntOp.cmpi .ne (IntOp.cmpi .slt (x.srem 131072#32) 0#32) 0#1) (IntOp.cmpi .ne (x.srem 131072#32) 0#32) = 1#1
      ↔ x.toInt.tmod 131072 < 0 := by
    rw [IntOp.andi_eq_one, IntOp.cmpi_ne, IntOp.cmpi_ne]
    have h1 : IntOp.cmpi .slt (x.srem 131072#32) 0#32 ≠ 0#1 ↔ x.toInt.tmod 131072 < 0 := by
      rw [← hi, ← show (0#32 : BitVec 32).toInt = 0 from rfl, ← IntOp.cmpi_slt]
      generalize IntOp.cmpi .slt (x.srem 131072#32) 0#32 = b
      revert b; decide
    rw [h1]
    refine ⟨fun h => h.1, fun h => ⟨h, fun e => ?_⟩⟩
    rw [← hi, e] at h
    exact absurd h (by decide)
  by_cases h : x.toInt.tmod 131072 < 0
  · rw [if_pos (hc.mpr h)]
    show (x.srem 131072#32 + 131072#32).toInt = _
    rw [BitVec.toInt_add, hi, show (131072#32 : BitVec 32).toInt = 131072 from rfl, ← key]
    rw [Int.bmod_eq_of_le (by omega) (by omega)]
    rw [Int.tmod_eq_emod] at h ⊢
    split at h <;> split <;> omega
  · rw [if_neg (fun e => h (hc.mp e)), hi, ← key]
    rw [Int.tmod_eq_emod] at h hb ⊢
    split at h <;> split <;> omega

/-- A row number as it is spelled: 131072 more when it is negative. -/
def rowWord (x : BitVec 32) : BitVec 32 :=
  if IntOp.cmpi .slt (floorMod x) 0#32 = 1#1 then IntOp.addi (floorMod x) 131072#32 else floorMod x

/-- It is the word's number modulo 131072. -/
theorem rowWord_toInt (x : BitVec 32) : (rowWord x).toInt = ((x.toNat % 131072 : ℕ) : ℤ) := by
  have h := floorMod_word x
  unfold rowWord
  rw [if_neg, h]
  rw [IntOp.cmpi_slt, h, show (0#32 : BitVec 32).toInt = 0 from rfl]
  omega

/-- The row number of new row `i` from position `p`. -/
theorem index_word (p : BitVec 32) (i : ℕ) : (rowWord (p + BitVec.ofNat 32 i)).toInt = (((p.toNat + i) % 131072 : ℕ) : ℤ) := by
  rw [rowWord_toInt, BitVec.toNat_add, BitVec.toNat_ofNat]
  congr 1
  omega

/-! ## Groups of rows side by side -/

/-- `ahead` of a group: when the start is a multiple of the group size `g`, row `r` of `N * g` lies `g` times as far past
    the start as its group, plus its place in the group. -/
theorem ahead_group {N g p : ℕ} (hN : 0 < N) (hg : 0 < g) (hp : p % g = 0) {r : ℕ} (hr : r < N * g) :
    ahead (N * g) p r = ahead N (p / g) (r / g) * g + r % g := by
  have hrg : r / g < N := Nat.div_lt_of_lt_mul (by rw [Nat.mul_comm]; exact hr)
  refine ahead_eq (Nat.mul_pos hN hg) hr ?_ ?_
  · have h1 := ahead_lt hN (p / g) (r / g)
    have h2 := Nat.mod_lt r hg
    calc ahead N (p / g) (r / g) * g + r % g < ahead N (p / g) (r / g) * g + g := by omega
      _ = (ahead N (p / g) (r / g) + 1) * g := by rw [Nat.succ_mul]
      _ ≤ N * g := Nat.mul_le_mul_right _ h1
  · have h3 := add_ahead hN (p / g) hrg
    have hpg : p = p / g * g := by have := Nat.div_add_mod' p g; omega
    have hr' : r = r / g * g + r % g := (Nat.div_add_mod' r g).symm
    have hm : r % g < g := Nat.mod_lt r hg
    rw [show p + (ahead N (p / g) (r / g) * g + r % g) = r % g + (p / g + ahead N (p / g) (r / g)) * g by rw [Nat.add_mul]; omega,
      Nat.add_mod, Nat.mul_mod_mul_right, h3, Nat.mod_eq_of_lt (show r % g < N * g from lt_of_lt_of_le hm (Nat.le_mul_of_pos_left g hN)),
      Nat.mod_eq_of_lt (by omega)]
    omega

/-- Column `c` of the row in place `a` of a group of `g` rows of `w` is a column of the group's 128. -/
theorem col_lt {g w a c : ℕ} (hw : g * w = 128) (ha : a < g) (hc : c < w) : a * w + c < 128 := by
  have h := Nat.mul_le_mul_right w (show a + 1 ≤ g from ha)
  rw [Nat.succ_mul, hw] at h
  omega

/-- Element `(r, c)` of the rows and its place among the groups have one row-major position. -/
theorem group_pos {n m g w : ℕ} (hw : g * w = 128) (hg : 0 < g) (r : Fin m) (c : Fin w) (q : Fin n) (hq : q.val = r.val / g) :
    ((Mat n).rowMajor (ix2 q ⟨r.val % g * w + c.val, col_lt hw (Nat.mod_lt _ hg) c.isLt⟩)).val = ((Sh m w).rowMajor (ix2 r c)).val := by
  rw [Shape.rowMajor_val_two, Shape.rowMajor_val_two]
  show q.val * 128 + (r.val % g * w + c.val) = r.val * w + c.val
  have h := congrArg (· * w) (Nat.div_add_mod' r.val g)
  simp only [Nat.add_mul, Nat.mul_assoc, hw] at h
  rw [hq]; omega

/-- Inserting groups of `g` rows side by side at the groups' ring, and taking the groups apart, is inserting the rows: the
    position is a multiple of the group size. -/
theorem ungroup {α : Type} {N K M L g w p : ℕ} (hN : 0 < N) (hg : 0 < g) (hw : g * w = 128) (hM : M = N * g) (hL : L = K * g) (hp : p % g = 0)
    (U : (Sh L w).Idx → α) (D : (Sh M w).Idx → α) (hU : (Sh L w).ShapeCasts (Mat K)) (hD : (Sh M w).ShapeCasts (Mat N)) (hR : (Mat N).ShapeCasts (Sh M w)) :
    shapeCast (Sh M w) (ringWrite N K (p / g) 0 K (shapeCast (Mat K) U hU) (shapeCast (Mat N) D hD)) hR = ringRows M L p U D := by
  subst hM
  subst hL
  funext x
  obtain ⟨r, c, rfl⟩ : ∃ r c, x = ix2 r c := ⟨x 0, x 1, eq_ix2 x⟩
  have hr : r.val < N * g := r.isLt
  have hrg : r.val / g < N := (Nat.div_lt_iff_lt_mul hg).mpr hr
  have ha := ahead_group (p := p) hN hg hp hr
  have hm := Nat.mod_lt r.val hg
  have hiff : ahead (N * g) p r.val < K * g ↔ ahead N (p / g) (r.val / g) < K := by
    rw [ha]
    constructor
    · intro h
      by_contra hc
      have := Nat.mul_le_mul_right g (Nat.not_lt.mp hc)
      omega
    · intro h
      have := Nat.mul_le_mul_right g (show ahead N (p / g) (r.val / g) + 1 ≤ K from h)
      rw [Nat.succ_mul] at this
      omega
  rw [shapeCast_apply _ hR (ix2 r c) (ix2 ⟨r.val / g, hrg⟩ ⟨r.val % g * w + c.val, col_lt hw hm c.isLt⟩) (group_pos hw hg r c _ rfl),
    ringWrite_eq_rows]
  unfold ringRows
  by_cases h : ahead (N * g) p r.val < K * g
  · rw [dif_pos (show ahead N (p / g) ((ix2 ⟨r.val / g, hrg⟩ ⟨r.val % g * w + c.val, col_lt hw hm c.isLt⟩ : (Mat N).Idx) 0).val < K from hiff.mp h),
      dif_pos (show ahead (N * g) p ((ix2 r c : (Sh (N * g) w).Idx) 0).val < K * g from h)]
    refine shapeCast_apply U hU _ _ ?_
    have e1 : ahead (N * g) p r.val / g = ahead N (p / g) (r.val / g) := by
      rw [ha, Nat.add_comm, Nat.add_mul_div_right _ _ hg, Nat.div_eq_of_lt hm, Nat.zero_add]
    have e2 : ahead (N * g) p r.val % g = r.val % g := by
      rw [ha, Nat.add_comm, Nat.add_mul_mod_self_right, Nat.mod_mod]
    have := group_pos (n := K) hw hg ⟨ahead (N * g) p r.val, h⟩ c ⟨ahead N (p / g) (r.val / g), hiff.mp h⟩ e1.symm
    simp only [e2] at this
    exact this.symm
  · rw [dif_neg (show ¬ ahead N (p / g) ((ix2 ⟨r.val / g, hrg⟩ ⟨r.val % g * w + c.val, col_lt hw hm c.isLt⟩ : (Mat N).Idx) 0).val < K from fun h' => h (hiff.mpr h')),
      dif_neg (show ¬ ahead (N * g) p ((ix2 r c : (Sh (N * g) w).Idx) 0).val < K * g from h)]
    exact shapeCast_apply D hD _ _ (group_pos hw hg r c _ rfl).symm

end Cert.Proof.Rows

end
-- ==== Proof.Bytes.lean ====
/-
  The packing of a transition's small fields into sixteen bytes, read back. A row of sixteen bytes is the flag, ten mask
  bits, a zero and the four bytes of the reward's word; it is carried as four words of 32 bits. `byte_of_word` says that
  byte `b` of word `q` of a row is byte `4 * q + b`; `bytes_flag`, `bytes_mask` and `word_reward` say which field each is.
-/
module

public import proofs.«01_k».proof.Proof.Rows
public import Idealize.ShloMosaic.Lib.BitcastConvert

@[expose] public section

noncomputable section

namespace Cert.Proof.Bytes

open Idealize.ShloMosaic Idealize.ShloMosaic.ValueIdx Cert.Proof.Ring Cert.Proof.Rows

/-- `n` rows of `a` groups of `b`. -/
abbrev Cu (n a b : ℕ) : Shape := ⟨3, ![n, a, b]⟩

variable {n : ℕ}

/-- The words of rows of sixteen bytes. -/
abbrev words (x : IVec (Sh n 16) 8) (hc : (Sh n 16).ShapeCasts (Cu n 4 4)) (hs : (Sh n 4).SplitsWords 32 (Cu n 4 4) 8) : IVec (Sh n 4) 32 :=
  Host.bitcastConvertWiden (Sh n 4) 32 (shapeCast (Cu n 4 4) x hc) hs

/-- The bytes of rows of four words. -/
abbrev bytes (x : IVec (Sh n 4) 32) (hc : (Cu n 4 4).ShapeCasts (Sh n 16)) (hs : (Sh n 4).SplitsWords 32 (Cu n 4 4) 8) : IVec (Sh n 16) 8 :=
  shapeCast (Sh n 16) (Host.bitcastConvertNarrow (Cu n 4 4) 8 x hs) hc

/-- Byte `c` of a row of four words: byte `c mod 4` of word `c / 4`. -/
theorem bytes_apply (x : IVec (Sh n 4) 32) (hc : (Cu n 4 4).ShapeCasts (Sh n 16)) (hs : (Sh n 4).SplitsWords 32 (Cu n 4 4) 8) (i : Fin n) (c : Fin 16) :
    bytes x hc hs (ix2 i c) = (x (ix2 i ⟨c.val / 4, by omega⟩)).extractLsb' (c.val % 4 * 8) 8 := by
  unfold bytes
  rw [shapeCast_apply _ hc (ix2 i c) (ix3 i ⟨c.val / 4, by omega⟩ ⟨c.val % 4, by omega⟩) ?_]
  · rw [Host.bitcastConvertNarrow_apply]
    have e : hs.drop (ix3 i (⟨c.val / 4, by omega⟩ : Fin 4) (⟨c.val % 4, by omega⟩ : Fin 4)) = ix2 i (⟨c.val / 4, by omega⟩ : Fin 4) := by
      funext a
      match a with
      | ⟨0, _⟩ => rfl
      | ⟨1, _⟩ => rfl
    rw [e]; rfl
  · rw [Shape.rowMajor_val_two, Shape.rowMajor_val_three]
    show (i.val * 4 + c.val / 4) * 4 + c.val % 4 = i.val * 16 + c.val
    omega

/-- Word `q` of a row of sixteen bytes, bit by bit. -/
theorem words_bit (x : IVec (Sh n 16) 8) (hc : (Sh n 16).ShapeCasts (Cu n 4 4)) (hs : (Sh n 4).SplitsWords 32 (Cu n 4 4) 8) (i : Fin n) (q : Fin 4)
    (k : ℕ) (hk : k < 32) : (words x hc hs (ix2 i q)).getLsbD k = (x (ix2 i ⟨q.val * 4 + k / 8, by omega⟩)).getLsbD (k % 8) := by
  unfold words
  rw [Host.bitcastConvertWiden_getLsbD _ _ _ _ _ k hk, shapeCast_apply x hc _ (ix2 i ⟨q.val * 4 + k / 8, by omega⟩) ?_]
  rw [Shape.rowMajor_val_two, Shape.rowMajor_val_three]
  show i.val * 16 + (q.val * 4 + k / 8) = (i.val * 4 + q.val) * 4 + k / 8
  omega

/-- A byte of a word of the row is the row's byte. -/
theorem byte_of_word (x : IVec (Sh n 16) 8) (hc : (Sh n 16).ShapeCasts (Cu n 4 4)) (hs : (Sh n 4).SplitsWords 32 (Cu n 4 4) 8) (i : Fin n) (c : Fin 16) :
    (words x hc hs (ix2 i ⟨c.val / 4, by omega⟩)).extractLsb' (c.val % 4 * 8) 8 = x (ix2 i c) := by
  apply BitVec.eq_of_getLsbD_eq
  intro k hk
  rw [BitVec.getLsbD_extractLsb', words_bit x hc hs i _ _ (by omega)]
  simp only [hk, decide_true, Bool.true_and]
  have e1 : (⟨c.val / 4 * 4 + (c.val % 4 * 8 + k) / 8, by omega⟩ : Fin 16) = c := Fin.ext (by simp only; omega)
  rw [e1]
  congr 1
  omega

/-! ## The row of sixteen bytes -/

/-- The flag, the masks, a zero and the reward's bytes side by side. -/
abbrev fields (T : IVec (Sh n 1) 8) (M : IVec (Sh n 10) 8) (Z : IVec (Sh n 1) 8) (R : IVec (Sh n 4) 8)
    (h : Shape.Concatenates [Sh n 1, Sh n 10, Sh n 1, Sh n 4] (Sh n 16) 1) : IVec (Sh n 16) 8 :=
  concatenate (Sh n 16) 1 [⟨Sh n 1, T⟩, ⟨Sh n 10, M⟩, ⟨Sh n 1, Z⟩, ⟨Sh n 4, R⟩] h

variable (T : IVec (Sh n 1) 8) (M : IVec (Sh n 10) 8) (Z : IVec (Sh n 1) 8) (R : IVec (Sh n 4) 8)
  (h : Shape.Concatenates [Sh n 1, Sh n 10, Sh n 1, Sh n 4] (Sh n 16) 1)

/-- Byte 0 is the flag. -/
theorem fields_flag (i : Fin n) : fields T M Z R h (ix2 i (0 : Fin 16)) = T (ix2 i (0 : Fin 1)) := by
  refine concatenate_apply_piece (t := Sh n 16) 1 [⟨Sh n 1, T⟩, ⟨Sh n 10, M⟩, ⟨Sh n 1, Z⟩, ⟨Sh n 4, R⟩] h _ 0 (Nat.lt_of_sub_eq_succ rfl) (Sh n 1) T rfl rfl 0 rfl (ix2 i (0 : Fin 1)) (fun b hb => ?_) rfl
  match b with
  | ⟨0, _⟩ => rfl
  | ⟨1, _⟩ => exact absurd rfl hb

/-- Bytes 1 to 10 are the masks. -/
theorem fields_mask (i : Fin n) (c : Fin 10) : fields T M Z R h (ix2 i ⟨1 + c.val, by omega⟩) = M (ix2 i c) := by
  refine concatenate_apply_piece (t := Sh n 16) 1 [⟨Sh n 1, T⟩, ⟨Sh n 10, M⟩, ⟨Sh n 1, Z⟩, ⟨Sh n 4, R⟩] h _ 1 (Nat.lt_of_sub_eq_succ rfl) (Sh n 10) M rfl rfl 1 rfl (ix2 i c) (fun b hb => ?_) rfl
  match b with
  | ⟨0, _⟩ => rfl
  | ⟨1, _⟩ => exact absurd rfl hb

/-- Bytes 12 to 15 are the reward's. -/
theorem fields_reward (i : Fin n) (c : Fin 4) : fields T M Z R h (ix2 i ⟨12 + c.val, by omega⟩) = R (ix2 i c) := by
  refine concatenate_apply_piece (t := Sh n 16) 1 [⟨Sh n 1, T⟩, ⟨Sh n 10, M⟩, ⟨Sh n 1, Z⟩, ⟨Sh n 4, R⟩] h _ 3 (Nat.lt_of_sub_eq_succ rfl) (Sh n 4) R rfl rfl 12 rfl (ix2 i c) (fun b hb => ?_) rfl
  match b with
  | ⟨0, _⟩ => rfl
  | ⟨1, _⟩ => exact absurd rfl hb

/-- The bytes of one word per row. -/
abbrev wordBytes (x : IVec (Sh n 1) 32) (hs : (Sh n 1).SplitsWords 32 (Cu n 1 4) 8) (hc : (Cu n 1 4).ShapeCasts (Sh n 4)) : IVec (Sh n 4) 8 :=
  shapeCast (Sh n 4) (Host.bitcastConvertNarrow (Cu n 1 4) 8 x hs) hc

/-- Word 3 of a row whose last four bytes are a word's is that word. -/
theorem word_reward (x : IVec (Sh n 1) 32) (hs' : (Sh n 1).SplitsWords 32 (Cu n 1 4) 8) (hc' : (Cu n 1 4).ShapeCasts (Sh n 4))
    (hc : (Sh n 16).ShapeCasts (Cu n 4 4)) (hs : (Sh n 4).SplitsWords 32 (Cu n 4 4) 8) (i : Fin n) :
    words (fields T M Z (wordBytes x hs' hc') h) hc hs (ix2 i (3 : Fin 4)) = x (ix2 i (0 : Fin 1)) := by
  apply BitVec.eq_of_getLsbD_eq
  intro k hk
  rw [words_bit _ hc hs i 3 k hk]
  have e1 : (⟨(3 : Fin 4).val * 4 + k / 8, by have : ((3 : Fin 4) : ℕ) = 3 := rfl; omega⟩ : Fin 16) = ⟨12 + (⟨k / 8, by omega⟩ : Fin 4).val, by simp only; omega⟩ :=
    Fin.ext (by have : ((3 : Fin 4) : ℕ) = 3 := rfl; simp only; omega)
  rw [e1, fields_reward]
  unfold wordBytes
  rw [shapeCast_apply _ hc' _ (ix3 i (0 : Fin 1) (⟨k / 8, by omega⟩ : Fin 4)) ?_]
  · rw [Host.bitcastConvertNarrow_apply, BitVec.getLsbD_extractLsb']
    have e2 : hs'.drop (ix3 i (0 : Fin 1) (⟨k / 8, by omega⟩ : Fin 4)) = ix2 i (0 : Fin 1) := by
      funext a
      match a with
      | ⟨0, _⟩ => rfl
      | ⟨1, _⟩ => rfl
    rw [e2]
    simp only [Nat.mod_lt _ (show 0 < 8 by decide), decide_true, Bool.true_and]
    congr 1
    show k / 8 * 8 + k % 8 = k
    omega
  · rw [Shape.rowMajor_val_two, Shape.rowMajor_val_three]
    show (i.val * 1 + 0) * 4 + k / 8 = i.val * 4 + k / 8
    omega

/-! ## Rows of fields inserted, and read back -/

variable {N K : ℕ}

/-- The bytes of inserted rows of words are the inserted rows of bytes. -/
theorem bytes_ringRows (p : ℕ) (U : IVec (Sh K 16) 8) (D : IVec (Sh N 16) 8) (hcU : (Sh K 16).ShapeCasts (Cu K 4 4))
    (hsU : (Sh K 4).SplitsWords 32 (Cu K 4 4) 8) (hcD : (Sh N 16).ShapeCasts (Cu N 4 4)) (hsD : (Sh N 4).SplitsWords 32 (Cu N 4 4) 8)
    (hc : (Cu N 4 4).ShapeCasts (Sh N 16)) :
    bytes (ringRows N K p (words U hcU hsU) (words D hcD hsD)) hc hsD = ringRows N K p U D := by
  funext x
  obtain ⟨r, c, rfl⟩ : ∃ r c, x = ix2 r c := ⟨x 0, x 1, eq_ix2 x⟩
  rw [bytes_apply]
  unfold ringRows
  by_cases h : ahead N p r.val < K
  · rw [dif_pos (show ahead N p ((ix2 r (⟨c.val / 4, by omega⟩ : Fin 4) : (Sh N 4).Idx) 0).val < K from h),
      dif_pos (show ahead N p ((ix2 r c : (Sh N 16).Idx) 0).val < K from h)]
    exact byte_of_word U hcU hsU ⟨_, h⟩ c
  · rw [dif_neg (show ¬ ahead N p ((ix2 r (⟨c.val / 4, by omega⟩ : Fin 4) : (Sh N 4).Idx) 0).val < K from h),
      dif_neg (show ¬ ahead N p ((ix2 r c : (Sh N 16).Idx) 0).val < K from h)]
    exact byte_of_word D hcD hsD r c

/-- A bit widened to a byte is not zero exactly when it is one. -/
theorem bit_of_byte (hl : 1 < 8) (b : BitVec 1) : IntOp.cmpi .ne (b.setWidth 8) 0#8 = b := by revert b; decide

/-- The flag read back from inserted rows of bytes. -/
theorem flag_ringRows (p : ℕ) (T : IVec (Sh K 1) 1) (M : IVec (Sh K 10) 8) (Z : IVec (Sh K 1) 8) (R : IVec (Sh K 4) 8)
    (h : Shape.Concatenates [Sh K 1, Sh K 10, Sh K 1, Sh K 4] (Sh K 16) 1)
    (T' : IVec (Sh N 1) 1) (M' : IVec (Sh N 10) 8) (Z' : IVec (Sh N 1) 8) (R' : IVec (Sh N 4) 8)
    (h' : Shape.Concatenates [Sh N 1, Sh N 10, Sh N 1, Sh N 4] (Sh N 16) 1) (hl : 1 < 8) (hsl : (Sh N 16).Slices ![0, 0] (Sh N 1)) (z : IVec (Sh N 1) 8)
    (hz : ∀ i, z i = 0#8) :
    cmpi .ne (extractStridedSlice (Sh N 1) ![0, 0] (ringRows N K p (fields (extui 8 T hl) M Z R h) (fields (extui 8 T' hl) M' Z' R' h')) hsl) z
      = ringRows N K p T T' := by
  funext x
  obtain ⟨r, c, rfl⟩ : ∃ r c, x = ix2 r c := ⟨x 0, x 1, eq_ix2 x⟩
  obtain rfl : c = 0 := Subsingleton.elim _ _
  have e : extractStridedSlice (Sh N 1) ![0, 0] (ringRows N K p (fields (extui 8 T hl) M Z R h) (fields (extui 8 T' hl) M' Z' R' h')) hsl (ix2 r (0 : Fin 1))
      = ringRows N K p (fields (extui 8 T hl) M Z R h) (fields (extui 8 T' hl) M' Z' R' h') (ix2 r (0 : Fin 16)) := by
    unfold extractStridedSlice
    congr 1
    funext a
    match a with
    | ⟨0, _⟩ => exact Fin.ext (Nat.zero_add _)
    | ⟨1, _⟩ => rfl
  show IntOp.cmpi .ne _ _ = _
  rw [e, hz]
  unfold ringRows
  by_cases hk : ahead N p r.val < K
  · rw [dif_pos (show ahead N p ((ix2 r (0 : Fin 16) : (Sh N 16).Idx) 0).val < K from hk),
      dif_pos (show ahead N p ((ix2 r (0 : Fin 1) : (Sh N 1).Idx) 0).val < K from hk)]
    refine (congrArg (IntOp.cmpi .ne · 0#8) (fields_flag _ M Z R h ⟨_, hk⟩)).trans (bit_of_byte hl _)
  · rw [dif_neg (show ¬ ahead N p ((ix2 r (0 : Fin 16) : (Sh N 16).Idx) 0).val < K from hk),
      dif_neg (show ¬ ahead N p ((ix2 r (0 : Fin 1) : (Sh N 1).Idx) 0).val < K from hk)]
    refine (congrArg (IntOp.cmpi .ne · 0#8) (fields_flag _ M' Z' R' h' r)).trans (bit_of_byte hl _)

/-- The masks read back from inserted rows of bytes. -/
theorem mask_ringRows (p : ℕ) (T : IVec (Sh K 1) 8) (M : IVec (Sh K 10) 1) (Z : IVec (Sh K 1) 8) (R : IVec (Sh K 4) 8)
    (h : Shape.Concatenates [Sh K 1, Sh K 10, Sh K 1, Sh K 4] (Sh K 16) 1)
    (T' : IVec (Sh N 1) 8) (M' : IVec (Sh N 10) 1) (Z' : IVec (Sh N 1) 8) (R' : IVec (Sh N 4) 8)
    (h' : Shape.Concatenates [Sh N 1, Sh N 10, Sh N 1, Sh N 4] (Sh N 16) 1) (hl : 1 < 8) (hsl : (Sh N 16).Slices ![0, 1] (Sh N 10)) (z : IVec (Sh N 10) 8)
    (hz : ∀ i, z i = 0#8) :
    cmpi .ne (extractStridedSlice (Sh N 10) ![0, 1] (ringRows N K p (fields T (extui 8 M hl) Z R h) (fields T' (extui 8 M' hl) Z' R' h')) hsl) z
      = ringRows N K p M M' := by
  funext x
  obtain ⟨r, c, rfl⟩ : ∃ r c, x = ix2 r c := ⟨x 0, x 1, eq_ix2 x⟩
  have e : extractStridedSlice (Sh N 10) ![0, 1] (ringRows N K p (fields T (extui 8 M hl) Z R h) (fields T' (extui 8 M' hl) Z' R' h')) hsl (ix2 r c)
      = ringRows N K p (fields T (extui 8 M hl) Z R h) (fields T' (extui 8 M' hl) Z' R' h') (ix2 r (⟨1 + c.val, by omega⟩ : Fin 16)) := by
    unfold extractStridedSlice
    congr 1
    funext a
    match a with
    | ⟨0, _⟩ => exact Fin.ext (Nat.zero_add _)
    | ⟨1, _⟩ => rfl
  show IntOp.cmpi .ne _ _ = _
  rw [e, hz]
  unfold ringRows
  by_cases hk : ahead N p r.val < K
  · rw [dif_pos (show ahead N p ((ix2 r (⟨1 + c.val, by omega⟩ : Fin 16) : (Sh N 16).Idx) 0).val < K from hk),
      dif_pos (show ahead N p ((ix2 r c : (Sh N 10).Idx) 0).val < K from hk)]
    refine (congrArg (IntOp.cmpi .ne · 0#8) (fields_mask T _ Z R h ⟨_, hk⟩ c)).trans (bit_of_byte hl _)
  · rw [dif_neg (show ¬ ahead N p ((ix2 r (⟨1 + c.val, by omega⟩ : Fin 16) : (Sh N 16).Idx) 0).val < K from hk),
      dif_neg (show ¬ ahead N p ((ix2 r c : (Sh N 10).Idx) 0).val < K from hk)]
    refine (congrArg (IntOp.cmpi .ne · 0#8) (fields_mask T' _ Z' R' h' r c)).trans (bit_of_byte hl _)

/-- The reward's word read back from inserted rows of words. -/
theorem reward_ringRows (p : ℕ) (T : IVec (Sh K 1) 8) (M : IVec (Sh K 10) 8) (Z : IVec (Sh K 1) 8) (x : IVec (Sh K 1) 32)
    (hs : (Sh K 1).SplitsWords 32 (Cu K 1 4) 8) (hc : (Cu K 1 4).ShapeCasts (Sh K 4))
    (h : Shape.Concatenates [Sh K 1, Sh K 10, Sh K 1, Sh K 4] (Sh K 16) 1) (hcU : (Sh K 16).ShapeCasts (Cu K 4 4)) (hsU : (Sh K 4).SplitsWords 32 (Cu K 4 4) 8)
    (T' : IVec (Sh N 1) 8) (M' : IVec (Sh N 10) 8) (Z' : IVec (Sh N 1) 8) (x' : IVec (Sh N 1) 32)
    (hs' : (Sh N 1).SplitsWords 32 (Cu N 1 4) 8) (hc' : (Cu N 1 4).ShapeCasts (Sh N 4))
    (h' : Shape.Concatenates [Sh N 1, Sh N 10, Sh N 1, Sh N 4] (Sh N 16) 1) (hcD : (Sh N 16).ShapeCasts (Cu N 4 4)) (hsD : (Sh N 4).SplitsWords 32 (Cu N 4 4) 8)
    (hsl : (Sh N 4).Slices ![0, 3] (Sh N 1)) :
    extractStridedSlice (Sh N 1) ![0, 3] (ringRows N K p (words (fields T M Z (wordBytes x hs hc) h) hcU hsU) (words (fields T' M' Z' (wordBytes x' hs' hc') h') hcD hsD)) hsl
      = ringRows N K p x x' := by
  funext y
  obtain ⟨r, c, rfl⟩ : ∃ r c, y = ix2 r c := ⟨y 0, y 1, eq_ix2 y⟩
  obtain rfl : c = 0 := Subsingleton.elim _ _
  have e : ∀ W : IVec (Sh N 4) 32, extractStridedSlice (Sh N 1) ![0, 3] W hsl (ix2 r (0 : Fin 1)) = W (ix2 r (3 : Fin 4)) := fun W => by
    unfold extractStridedSlice
    congr 1
    funext a
    match a with
    | ⟨0, _⟩ => exact Fin.ext (Nat.zero_add _)
    | ⟨1, _⟩ => rfl
  rw [e]
  unfold ringRows
  by_cases hk : ahead N p r.val < K
  · rw [dif_pos (show ahead N p ((ix2 r (3 : Fin 4) : (Sh N 4).Idx) 0).val < K from hk),
      dif_pos (show ahead N p ((ix2 r (0 : Fin 1) : (Sh N 1).Idx) 0).val < K from hk)]
    exact word_reward T M Z h x hs hc hcU hsU ⟨_, hk⟩
  · rw [dif_neg (show ¬ ahead N p ((ix2 r (3 : Fin 4) : (Sh N 4).Idx) 0).val < K from hk),
      dif_neg (show ¬ ahead N p ((ix2 r (0 : Fin 1) : (Sh N 1).Idx) 0).val < K from hk)]
    exact word_reward T' M' Z' h' x' hs' hc' hcD hsD r

end Cert.Proof.Bytes

end
-- ==== Proof.KRead.lean ====
/-
  What the kernel's @main leaves in its arguments and in its eight results, as operations on the launch contents.
-/
module

public import proofs.«01_k».proof.Proof.Main
public import proofs.«01_k».proof.Proof.Bytes

@[expose] public section

noncomputable section

namespace Cert.Proof.KRead

open Cert.Kernel Cert.Kernel.Gen Cert.Proof.Ring Cert.Proof.Setup Cert.Proof.Host Cert.Proof.Main Cert.Proof.Rows Cert.Proof.Bytes

open Idealize.ShloMosaic Idealize.ShloMosaic.StableHlo

variable {F : FTy → Type} [BitOps F]
variable (m : (ℓ : Loc nD τ sig) → Buf (Elt F) ℓ) (d : Dev nD)

/-- The launch contents of an argument. -/
abbrev arg (r : Ref sig .tc) : r.ty.Contents (Elt F) := m (d, Proc.devRef .tc r)

/-- The buffers the lines before the call write, in order. -/
def writesA : List (Ref sig .tc) :=
  [main_v0, main_v1, main_v2, main_v3, main_c, main_v4, main_v5, main_v6, main_v7, main_v8, main_v9, main_v10, main_v11, main_c_0, main_v12, main_v13,
    main_v14, main_v15, main_v16, main_v17, main_v18, main_v19, main_v20, main_v21, main_v22, main_v23_0, main_v23_1, main_v23_2, main_v23_3]

/-- A buffer that no line before the call writes keeps its launch contents until the call. -/
theorem VA_unwritten {r : Ref sig .tc} (h : r ∉ writesA) : VA m d (Proc.devRef .tc r) = arg m d r :=
  after_unwritten writesA rfl h _

/-- The buffers the lines after the call write, in order. -/
def writesB : List (Ref sig .tc) :=
  [main_v24, main_v25, main_v26, main_v27, main_v28, main_c_1, main_v29, main_v30, main_v31, main_v32, main_c_2, main_v33, main_v34,
    main_v35, main_v36, main_v37, main_c_3, main_v38, main_c_4, main_call0_v0, main_call0_c, main_call0_v1, main_call0_c_0, main_call0_v2,
    main_call0_v3, main_call0_c_1, main_call0_v4, main_call0_c_2, main_call0_v5, main_call0_c_3, main_call0_v6, main_call0_v7,
    main_call0_v8, main_call0_v9, main_v39, main_c_5, main_v40, main_c_6, main_v41, main_v42]

/-- A buffer that neither the lines before the call nor the call writes keeps its launch contents until the lines after the call. -/
theorem VB_unwritten {r : Ref sig .tc} (h : r ∉ writesA) : VB m d (Proc.devRef .tc r) = arg m d r := by
  have hne : ∀ b ∈ writesA, tcr r ≠ tcr b := fun b hb => tcr_ne fun e => h (e ▸ hb)
  exact (VB_of_ne m d (hne _ (by decide)) (hne _ (by decide)) (hne _ (by decide)) (hne _ (by decide))).trans (VA_unwritten m d h)

/-- A buffer that nothing writes keeps its launch contents. -/
theorem end_unwritten {r : Ref sig .tc} (hA : r ∉ writesA) (hB : r ∉ writesB) : Vend m d (Proc.devRef .tc r) = arg m d r :=
  (after_unwritten writesB rfl hB _).trans (VB_unwritten m d hA)

/-! ## The call's operands and targets when it starts -/

/-- A zero byte per row. -/
abbrev zero (S : Shape) (h : S_.BroadcastsInDim S (![] : Fin 0 → Fin S.rank)) : IVec S 8 := broadcastInDim S ![] h (constantI S_ 8 0#8)

/-- The new rows' words: the flag, the masks and the reward of each packed. -/
def newWords : IVec (Sh 16384 4) 32 :=
  words (n := 16384) (fields (n := 16384) (extui 8 (shapeCast S16384x1 (arg m d main_arg4 : IVec S16384 1) shapeCasts_S16384_S16384x1) natLt_1_8)
      (extui 8 (arg m d main_arg5 : IVec S16384x10 1) natLt_1_8) (zero S16384x1 bcast_S_S16384x1)
      (wordBytes (n := 16384) (bitcastToInt (shapeCast S16384x1 (arg m d main_arg3 : FVec F S16384 .f32) shapeCasts_S16384_S16384x1)) splits_S16384x1_w32_S16384x1x4_w8
        shapeCasts_S16384x1x4_S16384x4)
      concatenates_S16384x1_S16384x10_S16384x1_S16384x4_S16384x16_d1)
    shapeCasts_S16384x16_S16384x4x4 splits_S16384x4_w32_S16384x4x4_w8

/-- The old rows' words. -/
def oldWords : IVec (Sh 131072 4) 32 :=
  words (n := 131072) (fields (n := 131072) (extui 8 (arg m d main_arg10 : IVec S131072x1 1) natLt_1_8)
      (extui 8 (arg m d main_arg11 : IVec S131072x10 1) natLt_1_8) (zero S131072x1 bcast_S_S131072x1)
      (wordBytes (n := 131072) (bitcastToInt (arg m d main_arg9 : FVec F S131072x1 .f32)) splits_S131072x1_w32_S131072x1x4_w8
        shapeCasts_S131072x1x4_S131072x4)
      concatenates_S131072x1_S131072x10_S131072x1_S131072x4_S131072x16_d1)
    shapeCasts_S131072x16_S131072x4x4 splits_S131072x4_w32_S131072x4x4_w8

/-- The rows the call copies from first are the new observations. -/
theorem con_sO : (con m d).sO = arg m d main_arg0 := VA_unwritten m d (r := main_arg0) (by decide)
/-- Then the new next observations. -/
theorem con_sN : (con m d).sN = arg m d main_arg1 := VA_unwritten m d (r := main_arg1) (by decide)

/-- The first target starts as the old observations. -/
theorem con_oO : (con m d).oO = arg m d main_arg6 := by
  show VA m d (Proc.devRef .tc main_v23_0) = _
  unfold VA
  after_reads_simp
  rfl

/-- The second starts as the old next observations. -/
theorem con_oN : (con m d).oN = arg m d main_arg7 := by
  show VA m d (Proc.devRef .tc main_v23_1) = _
  unfold VA
  after_reads_simp
  rfl

/-- The new actions, four rows of 32 beside each other. -/
theorem con_sA : (con m d).sA = shapeCast (Mat 4096) (arg m d main_arg2 : FVec F S16384x32 .f32) shapeCasts_S16384x32_S4096x128 := by
  show VA m d (Proc.devRef .tc main_v21) = _
  unfold VA
  after_reads_simp
  rfl

/-- The third target starts as the old actions, laid out so. -/
theorem con_oA : (con m d).oA = shapeCast (Mat 32768) (arg m d main_arg8 : FVec F S131072x32 .f32) shapeCasts_S131072x32_S32768x128 := by
  show VA m d (Proc.devRef .tc main_v23_2) = _
  unfold VA
  after_reads_simp
  rfl

/-- The new words, 32 rows of four beside each other. -/
theorem con_sP : (con m d).sP = shapeCast (Mat 512) (newWords m d) shapeCasts_S16384x4_S512x128 := by
  show VA m d (Proc.devRef .tc main_v22) = _
  unfold VA
  after_reads_simp
  rfl

/-- The fourth target starts as the old words, laid out so. -/
theorem con_oP : (con m d).oP = shapeCast (Mat 4096) (oldWords m d) shapeCasts_S131072x4_S4096x128 := by
  show VA m d (Proc.devRef .tc main_v23_3) = _
  unfold VA
  after_reads_simp
  rfl

/-! ## The results -/

/-- The position, as a number. -/
abbrev pos : ℕ := ((arg m d main_arg12 : S_.Idx → BitVec 32) (fun i => i.elim0)).toNat

/-- The observations: the new rows written around the ring over the old. -/
theorem end_obs : Vend m d (Proc.devRef .tc main_v23_0) = ringRows 131072 16384 (w := 128) (pos m d) (arg m d main_arg0) (arg m d main_arg6) := by
  unfold Vend
  after_reads_simp
  refine (VB_obs m d).trans ?_
  unfold Con.rO
  rw [ringWrite_eq_rows, con_sO, con_oO]
  rfl

/-- The next observations likewise. -/
theorem end_nxt : Vend m d (Proc.devRef .tc main_v23_1) = ringRows 131072 16384 (w := 128) (pos m d) (arg m d main_arg1) (arg m d main_arg7) := by
  unfold Vend
  after_reads_simp
  refine (VB_nxt m d).trans ?_
  unfold Con.rN
  rw [ringWrite_eq_rows, con_sN, con_oN]
  rfl

/-- The actions likewise. -/
theorem end_act (hp : pos m d % 32 = 0) :
    Vend m d (Proc.devRef .tc main_v24) = ringRows 131072 16384 (w := 32) (pos m d) (arg m d main_arg2) (arg m d main_arg8) := by
  unfold Vend
  after_reads_simp
  rw [show VB m d (Proc.devRef .tc main_v23_2) = _ from VB_act m d, Con.rA, con_sA, con_oA]
  exact ungroup (N := 32768) (K := 4096) (g := 4) (w := 32) (by decide) (by decide) rfl rfl rfl (show pos m d % 4 = 0 by omega) _ _ _ _ _

/-- The packed rows after the call, as rows of four words. -/
theorem end_words (hp : pos m d % 32 = 0) (h : (Mat 4096).ShapeCasts (Sh 131072 4)) :
    shapeCast (Sh 131072 4) (VB m d (Proc.devRef .tc main_v23_3) : (Mat 4096).Idx → BitVec 32) h
      = ringRows 131072 16384 (pos m d) (newWords m d) (oldWords m d) := by
  rw [show VB m d (Proc.devRef .tc main_v23_3) = _ from VB_pck m d, Con.rP, con_sP, con_oP]
  exact ungroup (N := 4096) (K := 512) (g := 32) (w := 4) (by decide) (by decide) rfl rfl rfl hp _ _ _ _ _

/-- The done flags likewise: the first byte of each row of words. -/
theorem end_flag (hp : pos m d % 32 = 0) :
    Vend m d (Proc.devRef .tc main_v31)
      = ringRows 131072 16384 (w := 1) (pos m d) (shapeCast S16384x1 (arg m d main_arg4 : IVec S16384 1) shapeCasts_S16384_S16384x1) (arg m d main_arg10) := by
  unfold Vend
  after_reads_simp
  show cmpi .ne (extractStridedSlice (Sh 131072 1) ![0, 0] (bytes (n := 131072) (shapeCast (Sh 131072 4) (VB m d (Proc.devRef .tc main_v23_3) : (Mat 4096).Idx → BitVec 32)
    shapeCasts_S4096x128_S131072x4) shapeCasts_S131072x4x4_S131072x16 splits_S131072x4_w32_S131072x4x4_w8) _) _ = _
  rw [end_words m d hp]
  unfold newWords oldWords
  rw [bytes_ringRows]
  exact flag_ringRows _ _ _ _ _ _ _ _ _ _ _ _ _ _ (fun _ => rfl)

/-- The masks likewise: the ten bytes after the flag. -/
theorem end_mask (hp : pos m d % 32 = 0) :
    Vend m d (Proc.devRef .tc main_v35) = ringRows 131072 16384 (w := 10) (pos m d) (arg m d main_arg5) (arg m d main_arg11) := by
  unfold Vend
  after_reads_simp
  show cmpi .ne (extractStridedSlice (Sh 131072 10) ![0, 1] (bytes (n := 131072) (shapeCast (Sh 131072 4) (VB m d (Proc.devRef .tc main_v23_3) : (Mat 4096).Idx → BitVec 32)
    shapeCasts_S4096x128_S131072x4) shapeCasts_S131072x4x4_S131072x16 splits_S131072x4_w32_S131072x4x4_w8) _) _ = _
  rw [end_words m d hp]
  unfold newWords oldWords
  rw [bytes_ringRows]
  exact mask_ringRows _ _ _ _ _ _ _ _ _ _ _ _ _ _ (fun _ => rfl)

/-- The rewards likewise: the fourth word of each row, read as a float. -/
theorem end_reward (hp : pos m d % 32 = 0) :
    Vend m d (Proc.devRef .tc main_v37)
      = bitcastToFloat .f32 (ringRows 131072 16384 (w := 1) (pos m d)
          (bitcastToInt (shapeCast S16384x1 (arg m d main_arg3 : FVec F S16384 .f32) shapeCasts_S16384_S16384x1))
          (bitcastToInt (arg m d main_arg9 : FVec F S131072x1 .f32))) := by
  unfold Vend
  after_reads_simp
  show bitcastToFloat .f32 (extractStridedSlice (Sh 131072 1) ![0, 3] (shapeCast (Sh 131072 4) (VB m d (Proc.devRef .tc main_v23_3) : (Mat 4096).Idx → BitVec 32)
    shapeCasts_S4096x128_S131072x4) _) = _
  rw [end_words m d hp]
  unfold newWords oldWords
  rw [reward_ringRows]

/-- The position after the write: the remainder by the capacity, with the divisor's sign. -/
def wrap (x : IVec S_ 32) : IVec S_ 32 :=
  let D : IVec S_ 32 := select (cmpi .eq (id (constantI S_ 32 131072#32)) (constantI S_ 32 0#32)) (constantI S_ 32 1#32) (id (constantI S_ 32 131072#32))
  let R : IVec S_ 32 := Host.remsi x D
  select (andi (cmpi .ne (cmpi .slt R (constantI S_ 32 0#32)) (cmpi .slt D (constantI S_ 32 0#32))) (cmpi .ne R (constantI S_ 32 0#32))) (addi R D) R

/-- The new position. -/
theorem end_pos : Vend m d (Proc.devRef .tc main_v39) = wrap (addi (arg m d main_arg12 : IVec S_ 32) (constantI S_ 32 16384#32)) := by
  rw [← VB_unwritten m d (r := main_arg12) (by decide)]
  unfold Vend
  after_reads_simp
  simp only [TRef.toBuf, TRef.ofBuf, cast_eq]
  rfl

/-- The new flag that the ring has been filled. -/
theorem end_full : Vend m d (Proc.devRef .tc main_v42)
    = ori (arg m d main_arg13 : IVec S_ 1) (cmpi .sge (addi (arg m d main_arg12 : IVec S_ 32) (constantI S_ 32 16384#32)) (constantI S_ 32 131072#32)) := by
  rw [← VB_unwritten m d (r := main_arg12) (by decide), ← VB_unwritten m d (r := main_arg13) (by decide)]
  unfold Vend
  after_reads_simp

end Cert.Proof.KRead

end
-- ==== Proof.RRead.lean ====
/-
  What the reference's @main leaves in its first six results: the old rows with the new ones written around the ring.
-/
module

public import proofs.«01_k».proof.Proof.Gen.Reference.Run
public import proofs.«01_k».proof.Proof.Rows

@[expose] public section

noncomputable section

namespace Cert.Proof.RRead

open Cert.Reference Cert.Reference.Gen Cert.Reference.Value Cert.Proof.Rows
open Idealize.ShloMosaic Idealize.ShloMosaic.StableHlo Idealize.ShloMosaic.ValueIdx

variable {F : FTy → Type} [FloatOps F]
variable (m : (ℓ : Loc nD τ sig) → Buf (Elt F) ℓ) (d : Dev nD)

/-- The launch contents of an argument. -/
abbrev arg (r : Ref sig .tc) : r.ty.Contents (Elt F) := m (d, Proc.devRef .tc r)

/-- The position, as a word. -/
abbrev posWord : BitVec 32 := (arg m d main_arg12 : S_.Idx → BitVec 32) (fun i => i.elim0)

/-- A scatter at the row numbers the reference computes, whatever its rows' width: the index array's word `i` is the row number of
    the position plus `i`, so the rows are written around the ring. -/
theorem scatter_eq {α : Type} {w : ℕ} (wf : ScatterDims.WF (Sh 131072 w) (Sh 16384 1) (Sh 16384 w) [1] [0] [0] 1)
    (idx : IVec (Sh 16384 1) 32) (p : BitVec 32) (hidx : ∀ i : Fin 16384, idx (ix2 i (0 : Fin 1)) = rowWord (p + BitVec.ofNat 32 i.val))
    (U : (Sh 16384 w).Idx → α) (D : (Sh 131072 w).Idx → α) :
    Host.scatter (rowDims 131072 16384 w wf) (fun _ b => b) D idx U = ringRows 131072 16384 p.toNat U D :=
  scatter_rows wf (by decide) (by decide) p.toNat idx (fun i => (congrArg BitVec.toInt (hidx i)).trans (index_word p i.val)) U D

/-! ## The row numbers, as the reference computes them -/

/-- The capacity, as the remainder's divisor. -/
def divArr : IVec S_ 32 :=
  select (cmpi .eq (id (constantI S_ 32 131072#32)) (constantI S_ 32 0#32)) (constantI S_ 32 1#32) (id (constantI S_ 32 131072#32))

/-- A scalar given to every new row. -/
abbrev all {α : Type} (x : S_.Idx → α) : S16384.Idx → α := broadcastInDim S16384 ![] bcast_S_S16384 x

/-- The truncated remainders. -/
def remArr (p : IVec S_ 32) : IVec S16384 32 := Host.remsi (addi (all p) (iotaInDim S16384 32 0)) (all divArr)

/-- The remainders with the divisor's sign. -/
def modArr (p : IVec S_ 32) : IVec S16384 32 :=
  select (andi (cmpi .ne (cmpi .slt (remArr p) (all (constantI S_ 32 0#32))) (all (cmpi .slt divArr (constantI S_ 32 0#32))))
    (cmpi .ne (remArr p) (all (constantI S_ 32 0#32)))) (addi (remArr p) (all divArr)) (remArr p)

/-- The row numbers. -/
def rowArr (p : IVec S_ 32) : IVec S16384x1 32 :=
  broadcastInDim S16384x1 ![0] bcast_S16384_S16384x1_0
    (select (cmpi .slt (modArr p) (all (constantI S_ 32 0#32))) (addi (modArr p) (all (constantI S_ 32 131072#32))) (modArr p))

/-- It is the scalar everywhere. -/
theorem all_apply {α : Type} (x : S_.Idx → α) (j : S16384.Idx) : all x j = x (fun i => i.elim0) :=
  congrArg x (funext fun i => i.elim0)

/-- One truncated remainder. -/
theorem remArr_apply (p : IVec S_ 32) (j : S16384.Idx) :
    remArr p j = IntOp.remsi .host (p (fun i => i.elim0) + BitVec.ofNat 32 (j 0).val) divisor := by
  show IntOp.remsi .host (all p j + BitVec.ofNat 32 (j 0).val) (all divArr j) = _
  rw [all_apply, all_apply]
  rfl

/-- One remainder with the divisor's sign. -/
theorem modArr_apply (p : IVec S_ 32) (j : S16384.Idx) : modArr p j = floorMod (p (fun i => i.elim0) + BitVec.ofNat 32 (j 0).val) := by
  unfold floorMod
  rw [← remArr_apply p j]
  generalize hR : remArr p = R
  unfold modArr
  rw [hR]
  rfl

/-- One row number. -/
theorem rowArr_apply (p : IVec S_ 32) (i : Fin 16384) : rowArr p (ix2 i (0 : Fin 1)) = rowWord (p (fun i => i.elim0) + BitVec.ofNat 32 i.val) := by
  have hj : ∀ (x : IVec S16384 32), broadcastInDim S16384x1 ![0] bcast_S16384_S16384x1_0 x (ix2 i (0 : Fin 1)) = x (ix1 i) := fun x => by
    refine congrArg x (funext fun a => ?_)
    obtain rfl : a = 0 := Subsingleton.elim _ _
    rfl
  unfold rowArr rowWord
  rw [hj]
  have h := modArr_apply p (ix1 i)
  rw [show ((ix1 i : S16384.Idx) 0).val = i.val from rfl] at h
  rw [← h]
  rfl

/-! ## The results -/

/-- The observations. -/
theorem res_obs : res_main_v12 m d = ringRows 131072 16384 (w := 128) (posWord m d).toNat (arg m d main_arg0) (arg m d main_arg6) :=
  (show res_main_v12 m d = Host.scatter (rowDims 131072 16384 128 scatter_S131072x128_S16384x1_S16384x128_1_0_0_1_wf) (fun _ b => b)
      (arg m d main_arg6) (rowArr (arg m d main_arg12)) (arg m d main_arg0) from by unfold res_main_v12 rowArr modArr remArr divArr; rfl).trans
    (scatter_eq _ _ (posWord m d) (rowArr_apply _) _ _)

/-- The next observations. -/
theorem res_nxt : res_main_v19 m d = ringRows 131072 16384 (w := 128) (posWord m d).toNat (arg m d main_arg1) (arg m d main_arg7) :=
  (show res_main_v19 m d = Host.scatter (rowDims 131072 16384 128 scatter_S131072x128_S16384x1_S16384x128_1_0_0_1_wf) (fun _ b => b)
      (arg m d main_arg7) (rowArr (arg m d main_arg12)) (arg m d main_arg1) from by unfold res_main_v19 rowArr modArr remArr divArr; rfl).trans
    (scatter_eq _ _ (posWord m d) (rowArr_apply _) _ _)

/-- The actions. -/
theorem res_act : res_main_v26 m d = ringRows 131072 16384 (w := 32) (posWord m d).toNat (arg m d main_arg2) (arg m d main_arg8) :=
  (show res_main_v26 m d = Host.scatter (rowDims 131072 16384 32 scatter_S131072x32_S16384x1_S16384x32_1_0_0_1_wf) (fun _ b => b)
      (arg m d main_arg8) (rowArr (arg m d main_arg12)) (arg m d main_arg2) from by unfold res_main_v26 rowArr modArr remArr divArr; rfl).trans
    (scatter_eq _ _ (posWord m d) (rowArr_apply _) _ _)

/-- The rewards. -/
theorem res_reward : res_main_v33 m d = ringRows 131072 16384 (w := 1) (posWord m d).toNat (shapeCast S16384x1 (arg m d main_arg3 : FVec F S16384 .f32) shapeCasts_S16384_S16384x1) (arg m d main_arg9) :=
  (show res_main_v33 m d = Host.scatter (rowDims 131072 16384 1 scatter_S131072x1_S16384x1_S16384x1_1_0_0_1_wf) (fun _ b => b)
      (arg m d main_arg9) (rowArr (arg m d main_arg12)) (shapeCast S16384x1 (arg m d main_arg3 : FVec F S16384 .f32) shapeCasts_S16384_S16384x1) from by unfold res_main_v33 rowArr modArr remArr divArr; rfl).trans
    (scatter_eq _ _ (posWord m d) (rowArr_apply _) _ _)

/-- The done flags. -/
theorem res_flag : res_main_v40 m d = ringRows 131072 16384 (w := 1) (posWord m d).toNat (shapeCast S16384x1 (arg m d main_arg4 : IVec S16384 1) shapeCasts_S16384_S16384x1) (arg m d main_arg10) :=
  (show res_main_v40 m d = Host.scatter (rowDims 131072 16384 1 scatter_S131072x1_S16384x1_S16384x1_1_0_0_1_wf) (fun _ b => b)
      (arg m d main_arg10) (rowArr (arg m d main_arg12)) (shapeCast S16384x1 (arg m d main_arg4 : IVec S16384 1) shapeCasts_S16384_S16384x1) from by unfold res_main_v40 rowArr modArr remArr divArr; rfl).trans
    (scatter_eq _ _ (posWord m d) (rowArr_apply _) _ _)

/-- The masks. -/
theorem res_mask : res_main_v47 m d = ringRows 131072 16384 (w := 10) (posWord m d).toNat (arg m d main_arg5) (arg m d main_arg11) :=
  (show res_main_v47 m d = Host.scatter (rowDims 131072 16384 10 scatter_S131072x10_S16384x1_S16384x10_1_0_0_1_wf) (fun _ b => b)
      (arg m d main_arg11) (rowArr (arg m d main_arg12)) (arg m d main_arg5) from by unfold res_main_v47 rowArr modArr remArr divArr; rfl).trans
    (scatter_eq _ _ (posWord m d) (rowArr_apply _) _ _)

end Cert.Proof.RRead

end
-- ==== Proof.lean ====
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Pre_pos_aligned
public import proofs.«01_k».proof.Proof.Gen.Reference.Run
public import proofs.«01_k».proof.Proof.KRead
public import proofs.«01_k».proof.Proof.RRead
public import Idealize.ShloMosaic.Adequacy
public import Idealize.ShloMosaic.Init

@[expose] public section

noncomputable section

namespace Cert.Proof

open Idealize.ShloMosaic Idealize.SL.Sem Cert.Kernel Cert.Proof.Main Cert.Proof.KRead Cert.Proof.Rows

/-- A word whose low five bits are zero is a multiple of 32. -/
theorem low_bits (q : BitVec 32) (h : IntOp.cmpi .eq (IntOp.andi q 31#32) 0#32 = 1#1) : q.toNat % 32 = 0 := by
  rw [IntOp.cmpi_eq] at h
  have h3 : (q &&& 31#32).toNat = 0 := congrArg BitVec.toNat h
  rw [BitVec.toNat_and, show (31#32 : BitVec 32).toNat = 2 ^ 5 - 1 from rfl, Nat.and_two_pow_sub_one_eq_mod] at h3
  exact h3

/-- Under the precondition the position is a multiple of 32. -/
theorem pos_mod {m : (ℓ : Loc nD τ sig) → Buf (Elt Bits) ℓ} (h : Pre_Kernel_pos_aligned (hPre_pos_aligned := Cert.Pre_pos_aligned.Gen.facts) m) (d : Dev nD) :
    pos m d % 32 = 0 :=
  low_bits _ (congrFun (h d) (fun i => i.elim0))

/-- A buffer of the kernel's device, after the run. -/
theorem kernel_at {m : (ℓ : Loc nD τ sig) → Buf (Elt Bits) ℓ} {r : PUnit × MemSt nD τ sig (Elt Bits)} (h : QC m r) (d : Dev nD)
    (b : Ref sig .tc) (hb : ¬ (Proc.devRef (τ := τ) .tc b).isScoped) : r.2.mem (d, Proc.devRef .tc b) = Vend m d (Proc.devRef .tc b) :=
  h.1 d _ (Finset.mem_filter.mpr ⟨StableHlo.devRef_mem_tcRefs _, hb⟩)

/-- The kernel leaves its arguments as they were. -/
theorem kernel_args {m : (ℓ : Loc nD τ sig) → Buf (Elt Bits) ℓ} {r : PUnit × MemSt nD τ sig (Elt Bits)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨(kernel_at h c main_arg0 (by decide)).trans (end_unwritten m c (by decide) (by decide)),
    (kernel_at h c main_arg1 (by decide)).trans (end_unwritten m c (by decide) (by decide)),
    (kernel_at h c main_arg2 (by decide)).trans (end_unwritten m c (by decide) (by decide)),
    (kernel_at h c main_arg3 (by decide)).trans (end_unwritten m c (by decide) (by decide)),
    (kernel_at h c main_arg4 (by decide)).trans (end_unwritten m c (by decide) (by decide)),
    (kernel_at h c main_arg5 (by decide)).trans (end_unwritten m c (by decide) (by decide)),
    (kernel_at h c main_arg6 (by decide)).trans (end_unwritten m c (by decide) (by decide)),
    (kernel_at h c main_arg7 (by decide)).trans (end_unwritten m c (by decide) (by decide)),
    (kernel_at h c main_arg8 (by decide)).trans (end_unwritten m c (by decide) (by decide)),
    (kernel_at h c main_arg9 (by decide)).trans (end_unwritten m c (by decide) (by decide)),
    (kernel_at h c main_arg10 (by decide)).trans (end_unwritten m c (by decide) (by decide)),
    (kernel_at h c main_arg11 (by decide)).trans (end_unwritten m c (by decide) (by decide)),
    (kernel_at h c main_arg12 (by decide)).trans (end_unwritten m c (by decide) (by decide)),
    (kernel_at h c main_arg13 (by decide)).trans (end_unwritten m c (by decide) (by decide))⟩

/-- Equal positions, new rows and old rows give the same rows. -/
theorem rows_congr {α : Type} {w : ℕ} {p p' : ℕ} {U U' : (Sh 16384 w).Idx → α} {D D' : (Sh 131072 w).Idx → α} (hp : p = p') (hU : U = U') (hD : D = D') :
    ringRows 131072 16384 p U D = ringRows 131072 16384 p' U' D' := by
  subst hp hU hD
  rfl

/-- Over bit patterns the reward's trip through words and back changes nothing. -/
theorem reward_back (p : ℕ) (U : FVec Bits (Sh 16384 1) .f32) (D : FVec Bits (Sh 131072 1) .f32) :
    bitcastToFloat .f32 (ringRows 131072 16384 p (bitcastToInt U) (bitcastToInt D)) = ringRows 131072 16384 p U D :=
  funext fun x => ringRows_map (fun y : BitVec 32 => (FloatOps.ofBits .f32 y : Bits .f32)) _ _ _ _ _ x

/-- Every execution of the kernel ends, its arguments as they were and every counter at zero. -/
theorem frame_kernel (m : (ℓ : Loc nD τ sig) → Buf (Elt Bits) ℓ) (g : Dev nD → PrngReg) :
    θ_run (Cert.Kernel.defs (F := Bits)) (Cert.Kernel.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run _ _ _).mono (fun _ h => ⟨fun c => kernel_args h c, h.2⟩) (run_main m g)

/-- So does every execution of the reference. -/
theorem frame_reference : quiescent_Reference (hReference := Cert.Reference.Gen.facts) := fun m g _ =>
  (θ_run _ _ _).mono (fun r h => ⟨fun c => (h c).2.2.2.2.2.2.2.2, sem_eq_zero_of_no_sems (by decide) r.2⟩)
    (Cert.Reference.Value.run (F := Bits) m g)

/-- The kernel's results are the reference's, bit for bit. -/
theorem exact_results : bitexact_Kernel_Reference_pre_pos_aligned (hKernel := Cert.Kernel.Gen.facts) (hReference := Cert.Reference.Gen.facts)
    (hPre_pos_aligned := Cert.Pre_pos_aligned.Gen.facts) := by
  intro m g m' g' hpre hag
  refine ⟨fun c => Vend m c (Proc.devRef .tc main_v23_0), fun c => Vend m c (Proc.devRef .tc main_v23_1), fun c => Vend m c (Proc.devRef .tc main_v24),
    fun c => Vend m c (Proc.devRef .tc main_v37), fun c => Vend m c (Proc.devRef .tc main_v31), fun c => Vend m c (Proc.devRef .tc main_v35),
    fun c => Vend m c (Proc.devRef .tc main_v39), fun c => Vend m c (Proc.devRef .tc main_v42),
    (θ_run _ _ _).mono (fun r h c => ⟨kernel_at h c main_v23_0 (by decide), kernel_at h c main_v23_1 (by decide), kernel_at h c main_v24 (by decide),
      kernel_at h c main_v37 (by decide), kernel_at h c main_v31 (by decide), kernel_at h c main_v35 (by decide),
      kernel_at h c main_v39 (by decide), kernel_at h c main_v42 (by decide), kernel_args h c⟩) (run_main m g),
    (θ_run _ _ _).mono (fun r h c => ?_) (Cert.Reference.Value.run (F := Bits) m' g')⟩
  obtain ⟨h0, h1, h2, h3, h4, h5, h6, h7, hargs⟩ := h c
  obtain ⟨a0, a1, a2, a3, a4, a5, a6, a7, a8, a9, a10, a11, a12, a13⟩ := hag c
  have hp : (RRead.posWord m' c).toNat = pos m c := congrArg (fun x : S_.Idx → BitVec 32 => (x (fun i => i.elim0)).toNat) a12
  have h32 : pos m c % 32 = 0 := pos_mod hpre c
  refine ⟨(h0.trans (RRead.res_obs m' c)).trans (Eq.trans ?_ (end_obs m c).symm), (h1.trans (RRead.res_nxt m' c)).trans (Eq.trans ?_ (end_nxt m c).symm),
    (h2.trans (RRead.res_act m' c)).trans (Eq.trans ?_ (end_act m c h32).symm),
    (h3.trans (RRead.res_reward m' c)).trans (Eq.trans ?_ ((end_reward m c h32).trans (reward_back _ _ _)).symm),
    (h4.trans (RRead.res_flag m' c)).trans (Eq.trans ?_ (end_flag m c h32).symm), (h5.trans (RRead.res_mask m' c)).trans (Eq.trans ?_ (end_mask m c h32).symm),
    h6.trans (Eq.trans ?_ (end_pos m c).symm), h7.trans (Eq.trans ?_ (end_full m c).symm), hargs⟩
  · exact rows_congr hp a0 a6
  · exact rows_congr hp a1 a7
  · exact rows_congr hp a2 a8
  · exact rows_congr hp (congrArg (fun x : FVec Bits S16384 .f32 => shapeCast S16384x1 x Cert.Kernel.Gen.facts.shapeCasts_S16384_S16384x1) a3) a9
  · exact rows_congr hp (congrArg (fun x : IVec S16384 1 => shapeCast S16384x1 x Cert.Kernel.Gen.facts.shapeCasts_S16384_S16384x1) a4) a10
  · exact rows_congr hp a5 a11
  · exact congrArg (fun x : IVec S_ 32 => wrap (addi x (constantI S_ 32 16384#32))) a12
  · rw [a12, a13]

/-- Everything the statement states. -/
theorem claim : Cert.Claim := ⟨Cert.Kernel.Gen.facts, Cert.Reference.Gen.facts, Cert.Pre_pos_aligned.Gen.facts,
  fun m g _ => frame_kernel m g, fun m g _ => frame_kernel m g, frame_reference, fun m g _ => frame_reference m g trivial, exact_results⟩

end Cert.Proof

end
